-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "gelu_cubic" .f32 0x3D122279#32 ((80338380498831 / 2251799813685248 : ℝ) : EReal)

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v18) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_v32) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v33_0)) (v1 : (c : Dev Cert.Kernel9Ideal.nD) → Buf (Elt Ideal) ((c.tc : Thread Cert.Kernel9Ideal.nD Cert.Kernel9Ideal.τ).loc Cert.Kernel9Ideal.main_v33_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v33_0) = v0 c
          ∧ r.2.mem ((c.tc : Thread Cert.Kernel9Ideal.nD Cert.Kernel9Ideal.τ).loc Cert.Kernel9Ideal.main_v33_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v76) = v0 c
          ∧ r.2.mem ((c.tc : Thread Cert.Reference9Ideal.nD Cert.Reference9Ideal.τ).loc Cert.Reference9Ideal.main_v81) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts) (hPre_finite2 : Cert.Pre_finite2.Facts) (hPre_finite9 : Cert.Pre_finite9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
-- ==== Pre_finite.lean ====
abbrev S8x2048x1024 : Shape := ⟨3, ![8, 2048, 1024]⟩
abbrev S8x256x2048 : Shape := ⟨3, ![8, 256, 2048]⟩
abbrev S2x1024x1024 : Shape := ⟨3, ![2, 1024, 1024]⟩
abbrev S2x6x1024 : Shape := ⟨3, ![2, 6, 1024]⟩
abbrev S_ : Shape := ⟨0, ![]⟩

class Facts : Prop where
  bcast_S_S8x256x2048 : S_.BroadcastsInDim S8x256x2048 (![] : Fin 0 → Fin S8x256x2048.rank)
  reducesTo_S8x256x2048_S_d0_1_2 : S8x256x2048.ReducesTo [0, 1, 2] S_
  h_S_ : 0 < S_.numel
  bcast_S_S2x1024x1024 : S_.BroadcastsInDim S2x1024x1024 (![] : Fin 0 → Fin S2x1024x1024.rank)
  reducesTo_S2x1024x1024_S_d0_1_2 : S2x1024x1024.ReducesTo [0, 1, 2] S_
  bcast_S_S2x6x1024 : S_.BroadcastsInDim S2x6x1024 (![] : Fin 0 → Fin S2x6x1024.rank)
  reducesTo_S2x6x1024_S_d0_1_2 : S2x6x1024.ReducesTo [0, 1, 2] S_

variable [Facts]

def fn {F : FTy → Type} [FloatOps F] (main_arg0 : FVec F S8x2048x1024 .f32) (main_arg1 : FVec F S8x256x2048 .bf16) (main_arg2 : FVec F S2x1024x1024 .f32) (main_arg3 : FVec F S2x1024x1024 .f32) (main_arg4 : FVec F S2x6x1024 .f32) : IVec S_ 1 :=
  let main_v0 : FVec F S8x256x2048 .bf16 := Host.absf main_arg1
  let main_cst : FVec F S_ .bf16 := constant S_ .bf16 0x7F80#16
  let main_v1 : FVec F S8x256x2048 .bf16 := broadcastInDim S8x256x2048 ![] bcast_S_S8x256x2048 main_cst
  let main_v2 : IVec S8x256x2048 1 := cmpf .olt main_v0 main_v1
  let main_c : IVec S_ 1 := constantI S_ 1 1#1
  let main_v3 : IVec S_ 1 := (fun x v => Host.reduce IntOp.andi x v reducesTo_S8x256x2048_S_d0_1_2 h_S_) main_v2 main_c
  let main_v4 : FVec F S2x1024x1024 .f32 := Host.absf main_arg2
  let main_cst_0 : FVec F S_ .f32 := constant S_ .f32 0x7F800000#32
  let main_v5 : FVec F S2x1024x1024 .f32 := broadcastInDim S2x1024x1024 ![] bcast_S_S2x1024x1024 main_cst_0
  let main_v6 : IVec S2x1024x1024 1 := cmpf .olt main_v4 main_v5
  let main_c_1 : IVec S_ 1 := constantI S_ 1 1#1
  let main_v7 : IVec S_ 1 := (fun x v => Host.reduce IntOp.andi x v reducesTo_S2x1024x1024_S_d0_1_2 h_S_) main_v6 main_c_1
  let main_v8 : IVec S_ 1 := andi main_v3 main_v7
  let main_v9 : FVec F S2x6x1024 .f32 := Host.absf main_arg4
  let main_cst_2 : FVec F S_ .f32 := constant S_ .f32 0x7F800000#32
  let main_v10 : FVec F S2x6x1024 .f32 := broadcastInDim S2x6x1024 ![] bcast_S_S2x6x1024 main_cst_2
  let main_v11 : IVec S2x6x1024 1 := cmpf .olt main_v9 main_v10
  let main_c_3 : IVec S_ 1 := constantI S_ 1 1#1
  let main_v12 : IVec S_ 1 := (fun x v => Host.reduce IntOp.andi x v reducesTo_S2x6x1024_S_d0_1_2 h_S_) main_v11 main_c_3
  let main_v13 : IVec S_ 1 := andi main_v8 main_v12
  main_v13
-- ==== Pre_finite2.lean ====
abbrev S8x2048x1024 : Shape := ⟨3, ![8, 2048, 1024]⟩
abbrev S2x1024x5632 : Shape := ⟨3, ![2, 1024, 5632]⟩
abbrev S2x3x5632 : Shape := ⟨3, ![2, 3, 5632]⟩
abbrev S2x2816x1024 : Shape := ⟨3, ![2, 2816, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S2x1024x5632 : S_.BroadcastsInDim S2x1024x5632 (![] : Fin 0 → Fin S2x1024x5632.rank)
  reducesTo_S2x1024x5632_S_d0_1_2 : S2x1024x5632.ReducesTo [0, 1, 2] S_
  bcast_S_S2x3x5632 : S_.BroadcastsInDim S2x3x5632 (![] : Fin 0 → Fin S2x3x5632.rank)
  reducesTo_S2x3x5632_S_d0_1_2 : S2x3x5632.ReducesTo [0, 1, 2] S_

variable [Facts]

def fn {F : FTy → Type} [FloatOps F] (main_arg0 : FVec F S8x2048x1024 .bf16) (main_arg1 : FVec F S2x1024x5632 .f32) (main_arg2 : FVec F S2x3x5632 .f32) (main_arg3 : FVec F S2x2816x1024 .f32) : IVec S_ 1 :=
  let main_v0 : FVec F S8x2048x1024 .bf16 := Host.absf main_arg0
  let main_cst : FVec F S_ .bf16 := constant S_ .bf16 0x7F80#16
  let main_v1 : FVec F S8x2048x1024 .bf16 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S2x1024x5632 .f32 := Host.absf main_arg1
  let main_cst_0 : FVec F S_ .f32 := constant S_ .f32 0x7F800000#32
  let main_v5 : FVec F S2x1024x5632 .f32 := broadcastInDim S2x1024x5632 ![] bcast_S_S2x1024x5632 main_cst_0
  let main_v6 : IVec S2x1024x5632 1 := cmpf .olt main_v4 main_v5
  let main_c_1 : IVec S_ 1 := constantI S_ 1 1#1
  let main_v7 : IVec S_ 1 := (fun x v => Host.reduce IntOp.andi x v reducesTo_S2x1024x5632_S_d0_1_2 h_S_) main_v6 main_c_1
  let main_v8 : IVec S_ 1 := andi main_v3 main_v7
  let main_v9 : FVec F S2x3x5632 .f32 := Host.absf main_arg2
  let main_cst_2 : FVec F S_ .f32 := constant S_ .f32 0x7F800000#32
  let main_v10 : FVec F S2x3x5632 .f32 := broadcastInDim S2x3x5632 ![] bcast_S_S2x3x5632 main_cst_2
  let main_v11 : IVec S2x3x5632 1 := cmpf .olt main_v9 main_v10
  let main_c_3 : IVec S_ 1 := constantI S_ 1 1#1
  let main_v12 : IVec S_ 1 := (fun x v => Host.reduce IntOp.andi x v reducesTo_S2x3x5632_S_d0_1_2 h_S_) main_v11 main_c_3
  let main_v13 : IVec S_ 1 := andi main_v8 main_v12
  main_v13
-- ==== Pre_finite9.lean ====
abbrev S2x33x64 : Shape := ⟨3, ![2, 33, 64]⟩
abbrev S2x64 : Shape := ⟨2, ![2, 64]⟩
abbrev S2x64x64 : Shape := ⟨3, ![2, 64, 64]⟩
abbrev S2x64x2048 : Shape := ⟨3, ![2, 64, 2048]⟩
abbrev S2x2x64 : Shape := ⟨3, ![2, 2, 64]⟩
abbrev S_ : Shape := ⟨0, ![]⟩

class Facts : Prop where
  bcast_S_S2x64x2048 : S_.BroadcastsInDim S2x64x2048 (![] : Fin 0 → Fin S2x64x2048.rank)
  reducesTo_S2x64x2048_S_d0_1_2 : S2x64x2048.ReducesTo [0, 1, 2] S_
  h_S_ : 0 < S_.numel

variable [Facts]

def fn {F : FTy → Type} [FloatOps F] (main_arg0 : FVec F S2x33x64 .f32) (main_arg1 : FVec F S2x64 .f32) (main_arg2 : FVec F S2x64x64 .f32) (main_arg3 : FVec F S2x64 .f32) (main_arg4 : FVec F S2x64x2048 .f32) (main_arg5 : FVec F S2x2x64 .f32) : IVec S_ 1 :=
  let main_v0 : FVec F S2x64x2048 .f32 := Host.absf main_arg4
  let main_cst : FVec F S_ .f32 := constant S_ .f32 0x7F800000#32
  let main_v1 : FVec F S2x64x2048 .f32 := broadcastInDim S2x64x2048 ![] bcast_S_S2x64x2048 main_cst
  let main_v2 : IVec S2x64x2048 1 := cmpf .olt main_v0 main_v1
  let main_c : IVec S_ 1 := constantI S_ 1 1#1
  let main_v3 : IVec S_ 1 := (fun x v => Host.reduce IntOp.andi x v reducesTo_S2x64x2048_S_d0_1_2 h_S_) main_v2 main_c
  main_v3
-- ==== Kernel.lean ====
abbrev S8x2048x1024 : Shape := ⟨3, ![8, 2048, 1024]⟩
abbrev S8x256x2048 : Shape := ⟨3, ![8, 256, 2048]⟩
abbrev S2x1024x1024 : Shape := ⟨3, ![2, 1024, 1024]⟩
abbrev S2x6x1024 : Shape := ⟨3, ![2, 6, 1024]⟩
abbrev S1x1024x1024 : Shape := ⟨3, ![1, 1024, 1024]⟩
abbrev S1024x1024 : Shape := ⟨2, ![1024, 1024]⟩
abbrev S12x1x1024 : Shape := ⟨3, ![12, 1, 1024]⟩
abbrev S1x256x2048 : Shape := ⟨3, ![1, 256, 2048]⟩
abbrev S1x1x1024 : Shape := ⟨3, ![1, 1, 1024]⟩
abbrev S1x256x1024 : Shape := ⟨3, ![1, 256, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S256x256 : Shape := ⟨2, ![256, 256]⟩
abbrev S1x256x256 : Shape := ⟨3, ![1, 256, 256]⟩

abbrev nBuf : Space → Nat
  | .hbm => 14
  | .vmem => 13
  | .smem => 0
  | _ => 0

abbrev bufTy : (tb : Table) → Fin (tcTables nBuf tb) → BufTy
  | .hbm, ⟨0, _⟩ => ⟨S8x2048x1024, .f32⟩
  | .hbm, ⟨1, _⟩ => ⟨S8x256x2048, .bf16⟩
  | .hbm, ⟨2, _⟩ => ⟨S2x1024x1024, .f32⟩
  | .hbm, ⟨3, _⟩ => ⟨S2x1024x1024, .f32⟩
  | .hbm, ⟨4, _⟩ => ⟨S2x6x1024, .f32⟩
  | .hbm, ⟨5, _⟩ => ⟨S1x1024x1024, .f32⟩
  | .hbm, ⟨6, _⟩ => ⟨S1024x1024, .f32⟩
  | .hbm, ⟨7, _⟩ => ⟨S1024x1024, .bf16⟩
  | .hbm, ⟨8, _⟩ => ⟨S1x1024x1024, .f32⟩
  | .hbm, ⟨9, _⟩ => ⟨S1024x1024, .f32⟩
  | .hbm, ⟨10, _⟩ => ⟨S1024x1024, .bf16⟩
  | .hbm, ⟨11, _⟩ => ⟨S12x1x1024, .f32⟩
  | .hbm, ⟨12, _⟩ => ⟨S8x2048x1024, .f32⟩
  | .hbm, ⟨13, _⟩ => ⟨S8x2048x1024, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x256x2048, .bf16⟩
  | .local _ .vmem, ⟨3, _⟩ => ⟨S1x256x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x1024, .bf16⟩
  | .local _ .vmem, ⟨12, _⟩ => ⟨S1x1024x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x2048x1024 : Shape := ⟨3, ![8, 2048, 1024]⟩
abbrev S8x256x2048 : Shape := ⟨3, ![8, 256, 2048]⟩
abbrev S2x1024x1024 : Shape := ⟨3, ![2, 1024, 1024]⟩
abbrev S2x6x1024 : Shape := ⟨3, ![2, 6, 1024]⟩
abbrev S1x1x1024 : Shape := ⟨3, ![1, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1024x1024 : Shape := ⟨3, ![1, 1024, 1024]⟩
abbrev S1024x1024 : Shape := ⟨2, ![1024, 1024]⟩
abbrev S8x2048x4x256 : Shape := ⟨4, ![8, 2048, 4, 256]⟩
abbrev S8x256x1024 : Shape := ⟨3, ![8, 256, 1024]⟩
abbrev S8x256x4x256 : Shape := ⟨4, ![8, 256, 4, 256]⟩
abbrev S8x4x2048x256 : Shape := ⟨4, ![8, 4, 2048, 256]⟩
abbrev S8x4x2048 : Shape := ⟨3, ![8, 4, 2048]⟩
abbrev S8x4x2048x1 : Shape := ⟨4, ![8, 4, 2048, 1]⟩
abbrev S8x4x256x2048 : Shape := ⟨4, ![8, 4, 256, 2048]⟩

abbrev nBuf : Space → Nat
  | .hbm => 94
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x2048, .bf16⟩
  | .hbm, ⟨2, _⟩ => ⟨S2x1024x1024, .f32⟩
  | .hbm, ⟨3, _⟩ => ⟨S2x1024x1024, .f32⟩
  | .hbm, ⟨4, _⟩ => ⟨S2x6x1024, .f32⟩
  | .hbm, ⟨5, _⟩ => ⟨S1x1x1024, .f32⟩
  | .hbm, ⟨6, _⟩ => ⟨S1024, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S1x1024x1024, .f32⟩
  | .hbm, ⟨24, _⟩ => ⟨S1024x1024, .f32⟩
  | .hbm, ⟨25, _⟩ => ⟨S8x2048x1024, .f32⟩
  | .hbm, ⟨26, _⟩ => ⟨S8x2048x4x256, .f32⟩
  | .hbm, ⟨27, _⟩ => ⟨S8x256x2048, .f32⟩
  | .hbm, ⟨28, _⟩ => ⟨S8x256x1024, .f32⟩
  | .hbm, ⟨29, _⟩ => ⟨S8x256x1024, .f32⟩
  | .hbm, ⟨30, _⟩ => ⟨S8x256x4x256, .f32⟩
  | .hbm, ⟨31, _⟩ => ⟨S8x256x4x256, .f32⟩
  | .hbm, ⟨32, _⟩ => ⟨S8x4x2048x256, .f32⟩
  | .hbm, ⟨33, _⟩ => ⟨S_, .f32⟩
  | .hbm, ⟨34, _⟩ => ⟨S8x4x2048x256, .f32⟩
  | .hbm, ⟨35, _⟩ => ⟨S8x4x2048x256, .f32⟩
  | .hbm, ⟨36, _⟩ => ⟨S_, .f32⟩
  | .hbm, ⟨37, _⟩ => ⟨S8x4x2048, .f32⟩
  | .hbm, ⟨38, _⟩ => ⟨S_, .f32⟩
  | .hbm, ⟨39, _⟩ => ⟨S8x4x2048, .f32⟩
  | .hbm, ⟨40, _⟩ => ⟨S8x4x2048, .f32⟩
  | .hbm, ⟨41, _⟩ => ⟨S8x4x2048x1, .f32⟩
  | .hbm, ⟨42, _⟩ => ⟨S8x4x2048x256, .f32⟩
  | .hbm, ⟨43, _⟩ => ⟨S8x4x2048x256, .f32⟩
  | .hbm, ⟨44, _⟩ => ⟨S8x4x2048x256, .f32⟩
  | .hbm, ⟨45, _⟩ => ⟨S_, .f32⟩
  | .hbm, ⟨46, _⟩ => ⟨S8x4x2048, .f32⟩
  | .hbm, ⟨47, _⟩ => ⟨S8x4x2048x1, .f32⟩
  | .hbm, ⟨48, _⟩ => ⟨S8x4x2048x256, .f32⟩
  | .hbm, ⟨49, _⟩ => ⟨S8x4x2048x256, .f32⟩
  | .hbm, ⟨50, _⟩ => ⟨S8x4x256x2048, .f32⟩
  | .hbm, ⟨51, _⟩ => ⟨S8x2048x4x256, .f32⟩
  | .hbm, ⟨52, _⟩ => ⟨S8x2048x1024, .f32⟩
  | .hbm, ⟨53, _⟩ => ⟨S1x1024x1024, .f32⟩
  | .hbm, ⟨54, _⟩ => ⟨S1024x1024, .f32⟩
  | .hbm, ⟨55, _⟩ => ⟨S8x2048x1024, .f32⟩
  | .hbm, ⟨56, _⟩ => ⟨S1x1x1024, .f32⟩
  | .hbm, ⟨57, _⟩ => ⟨S1024, .f32⟩
  | .hbm, ⟨58, _⟩ => ⟨S8x2048x1024, .f32⟩
  | .hbm, ⟨59, _⟩ => ⟨S_, .f32⟩
  | .hbm, ⟨60, _⟩ => ⟨S8x2048, .f32⟩
  | .hbm, ⟨61, _⟩ => ⟨S8x2048x1, .f32⟩
  | .hbm, ⟨62, _⟩ => ⟨S_, .f32⟩
  | .hbm, ⟨63, _⟩ => ⟨S8x2048x1, .f32⟩
  | .hbm, ⟨64, _⟩ => ⟨S8x2048x1, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S8x2048x1, .f32⟩
  | .hbm, ⟨69, _⟩ => ⟨S8x2048x1024, .f32⟩
  | .hbm, ⟨70, _⟩ => ⟨S8x2048x1024, .f32⟩
  | .hbm, ⟨71, _⟩ => ⟨S1x1x1024, .f32⟩
  | .hbm, ⟨72, _⟩ => ⟨S8x2048x1024, .f32⟩
  | .hbm, ⟨73, _⟩ => ⟨S8x2048x1024, .f32⟩
  | .hbm, ⟨74, _⟩ => ⟨S8x2048x1024, .f32⟩
  | .hbm, ⟨75, _⟩ => ⟨S1x1x1024, .f32⟩
  | .hbm, ⟨76, _⟩ => ⟨S1024, .f32⟩
  | .hbm, ⟨77, _⟩ => ⟨S8x2048x1024, .f32⟩
  | .hbm, ⟨78, _⟩ => ⟨S_, .f32⟩
  | .hbm, ⟨79, _⟩ => ⟨S8x2048, .f32⟩
  | .hbm, ⟨80, _⟩ => ⟨S8x2048x1, .f32⟩
  | .hbm, ⟨81, _⟩ => ⟨S_, .f32⟩
  | .hbm, ⟨82, _⟩ => ⟨S8x2048x1, .f32⟩
  | .hbm, ⟨83, _⟩ => ⟨S8x2048x1, .f32⟩
  | .hbm, ⟨84, _⟩ => ⟨S_, .f32⟩
  | .hbm, ⟨85, _⟩ => ⟨S8x2048x1, .f32⟩
  | .hbm, ⟨86, _⟩ => ⟨S8x2048x1, .f32⟩
  | .hbm, ⟨87, _⟩ => ⟨S8x2048x1, .f32⟩
  | .hbm, ⟨88, _⟩ => ⟨S8x2048x1024, .f32⟩
  | .hbm, ⟨89, _⟩ => ⟨S8x2048x1024, .f32⟩
  | .hbm, ⟨90, _⟩ => ⟨S1x1x1024, .f32⟩
  | .hbm, ⟨91, _⟩ => ⟨S8x2048x1024, .f32⟩
  | .hbm, ⟨92, _⟩ => ⟨S8x2048x1024, .f32⟩
  | .hbm, ⟨93, _⟩ => ⟨S8x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_9 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_cst_11 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩

abbrev nD : Nat := 1
abbrev τ : Topo := Topo.v7x

variable {F : FTy → Type} [FloatOps F]
-- ==== Kernel2.lean ====
abbrev S8x2048x1024 : Shape := ⟨3, ![8, 2048, 1024]⟩
abbrev S2x1024x5632 : Shape := ⟨3, ![2, 1024, 5632]⟩
abbrev S2x3x5632 : Shape := ⟨3, ![2, 3, 5632]⟩
abbrev S2x2816x1024 : Shape := ⟨3, ![2, 2816, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x2048x1024 : Shape := ⟨3, ![1, 2048, 1024]⟩
abbrev S1x3x5632 : Shape := ⟨3, ![1, 3, 5632]⟩
abbrev S1x528x1024 : Shape := ⟨3, ![1, 528, 1024]⟩
abbrev S528x1024 : Shape := ⟨2, ![528, 1024]⟩
abbrev S1024x2816 : Shape := ⟨2, ![1024, 2816]⟩
abbrev S528x2816 : Shape := ⟨2, ![528, 2816]⟩
abbrev S1x544x1024 : Shape := ⟨3, ![1, 544, 1024]⟩
abbrev S544x1024 : Shape := ⟨2, ![544, 1024]⟩
abbrev S544x2816 : Shape := ⟨2, ![544, 2816]⟩
abbrev S8x2816 : Shape := ⟨2, ![8, 2816]⟩
abbrev S1x3x2816 : Shape := ⟨3, ![1, 3, 2816]⟩
abbrev S3x2816 : Shape := ⟨2, ![3, 2816]⟩
abbrev S1x2816 : Shape := ⟨2, ![1, 2816]⟩
abbrev S512x2816 : Shape := ⟨2, ![512, 2816]⟩
abbrev S512x1024 : Shape := ⟨2, ![512, 1024]⟩
abbrev S1x512x1024 : Shape := ⟨3, ![1, 512, 1024]⟩
abbrev S560x2816 : Shape := ⟨2, ![560, 2816]⟩

abbrev nBuf : Space → Nat
  | .hbm => 11
  | .vmem => 7
  | .smem => 0
  | _ => 0

abbrev bufTy : (tb : Table) → Fin (tcTables nBuf tb) → BufTy
  | .hbm, ⟨0, _⟩ => ⟨S8x2048x1024, .bf16⟩
  | .hbm, ⟨1, _⟩ => ⟨S2x1024x5632, .f32⟩
  | .hbm, ⟨2, _⟩ => ⟨S2x3x5632, .f32⟩
  | .hbm, ⟨3, _⟩ => ⟨S2x2816x1024, .f32⟩
  | .hbm, ⟨4, _⟩ => ⟨S1x1024x5632, .f32⟩
  | .hbm, ⟨5, _⟩ => ⟨S1024x5632, .f32⟩
  | .hbm, ⟨6, _⟩ => ⟨S1024x5632, .bf16⟩
  | .hbm, ⟨7, _⟩ => ⟨S1x2816x1024, .f32⟩
  | .hbm, ⟨8, _⟩ => ⟨S2816x1024, .f32⟩
  | .hbm, ⟨9, _⟩ => ⟨S2816x1024, .bf16⟩
  | .hbm, ⟨10, _⟩ => ⟨S8x2048x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1024x5632, .bf16⟩
  | .local _ .vmem, ⟨3, _⟩ => ⟨S1x3x5632, .f32⟩
  | .local _ .vmem, ⟨4, _⟩ => ⟨S2816x1024, .bf16⟩
  | .local _ .vmem, ⟨5, _⟩ => ⟨S1x2048x1024, .bf16⟩
  | .local _ .vmem, ⟨6, _⟩ => ⟨S1x2048x1024, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel2Ideal.lean ====
variable {F : FTy → Type} [FloatOps F] [Named F]
def κ : String → Option EReal := fun
  | "gelu_cubic" => some ((80338380498831 / 2251799813685248 : ℝ) : EReal)
  | _ => none
-- ==== Reference2Ideal.lean ====
abbrev S8x2048x1024 : Shape := ⟨3, ![8, 2048, 1024]⟩
abbrev S2x1024x5632 : Shape := ⟨3, ![2, 1024, 5632]⟩
abbrev S2x3x5632 : Shape := ⟨3, ![2, 3, 5632]⟩
abbrev S2x2816x1024 : Shape := ⟨3, ![2, 2816, 1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x2816x1024 : Shape := ⟨3, ![1, 2816, 1024]⟩
abbrev S2816x1024 : Shape := ⟨2, ![2816, 1024]⟩
abbrev S8x2048x5632 : Shape := ⟨3, ![8, 2048, 5632]⟩
abbrev S_ : Shape := ⟨0, ![]⟩
abbrev S8x2050x5632 : Shape := ⟨3, ![8, 2050, 5632]⟩
abbrev S1x5632 : Shape := ⟨2, ![1, 5632]⟩
abbrev S5632 : Shape := ⟨1, ![5632]⟩
abbrev S1x1x5632 : Shape := ⟨3, ![1, 1, 5632]⟩
abbrev S8x2048x2816 : Shape := ⟨3, ![8, 2048, 2816]⟩

abbrev nBuf : Space → Nat
  | .hbm => 57
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S2x1024x5632, .f32⟩
  | .hbm, ⟨2, _⟩ => ⟨S2x3x5632, .f32⟩
  | .hbm, ⟨3, _⟩ => ⟨S2x2816x1024, .f32⟩
  | .hbm, ⟨4, _⟩ => ⟨S8x2048x1024, .f32⟩
  | .hbm, ⟨5, _⟩ => ⟨S1x1024x5632, .f32⟩
  | .hbm, ⟨6, _⟩ => ⟨S1024x5632, .f32⟩
  | .hbm, ⟨7, _⟩ => ⟨S1x3x5632, .f32⟩
  | .hbm, ⟨8, _⟩ => ⟨S3x5632, .f32⟩
  | .hbm, ⟨9, _⟩ => ⟨S1x2816x1024, .f32⟩
  | .hbm, ⟨10, _⟩ => ⟨S2816x1024, .f32⟩
  | .hbm, ⟨11, _⟩ => ⟨S8x2048x5632, .f32⟩
  | .hbm, ⟨12, _⟩ => ⟨S_, .i32⟩
  | .hbm, ⟨13, _⟩ => ⟨S_, .f32⟩
  | .hbm, ⟨14, _⟩ => ⟨S8x2050x5632, .f32⟩
  | .hbm, ⟨15, _⟩ => ⟨S8x2048x5632, .f32⟩
  | .hbm, ⟨16, _⟩ => ⟨S1x5632, .f32⟩
  | .hbm, ⟨17, _⟩ => ⟨S5632, .f32⟩
  | .hbm, ⟨18, _⟩ => ⟨S1x1x5632, .f32⟩
  | .hbm, ⟨19, _⟩ => ⟨S8x2048x5632, .f32⟩
  | .hbm, ⟨20, _⟩ => ⟨S8x2048x5632, .f32⟩
  | .hbm, ⟨21, _⟩ => ⟨S8x2048x5632, .f32⟩
  | .hbm, ⟨22, _⟩ => ⟨S1x5632, .f32⟩
  | .hbm, ⟨23, _⟩ => ⟨S5632, .f32⟩
  | .hbm, ⟨24, _⟩ => ⟨S1x1x5632, .f32⟩
  | .hbm, ⟨25, _⟩ => ⟨S8x2048x5632, .f32⟩
  | .hbm, ⟨26, _⟩ => ⟨S8x2048x5632, .f32⟩
  | .hbm, ⟨27, _⟩ => ⟨S8x2048x5632, .f32⟩
  | .hbm, ⟨28, _⟩ => ⟨S8x2048x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S8x2048x5632, .f32⟩
  | .hbm, ⟨33, _⟩ => ⟨S8x2048x5632, .f32⟩
  | .hbm, ⟨34, _⟩ => ⟨S8x2048x5632, .f32⟩
  | .hbm, ⟨35, _⟩ => ⟨S8x2048x2816, .f32⟩
  | .hbm, ⟨36, _⟩ => ⟨S8x2048x2816, .f32⟩
  | .hbm, ⟨37, _⟩ => ⟨S8x2048x2816, .f32⟩
  | .hbm, ⟨38, _⟩ => ⟨S8x2048x2816, .f32⟩
  | .hbm, ⟨39, _⟩ => ⟨S_, .f32⟩
  | .hbm, ⟨40, _⟩ => ⟨S8x2048x2816, .f32⟩
  | .hbm, ⟨41, _⟩ => ⟨S8x2048x2816, .f32⟩
  | .hbm, ⟨42, _⟩ => ⟨S8x2048x2816, .f32⟩
  | .hbm, ⟨43, _⟩ => ⟨S_, .f32⟩
  | .hbm, ⟨44, _⟩ => ⟨S8x2048x2816, .f32⟩
  | .hbm, ⟨45, _⟩ => ⟨S8x2048x2816, .f32⟩
  | .hbm, ⟨46, _⟩ => ⟨S8x2048x2816, .f32⟩
  | .hbm, ⟨47, _⟩ => ⟨S_, .f32⟩
  | .hbm, ⟨48, _⟩ => ⟨S8x2048x2816, .f32⟩
  | .hbm, ⟨49, _⟩ => ⟨S8x2048x2816, .f32⟩
  | .hbm, ⟨50, _⟩ => ⟨S_, .f32⟩
  | .hbm, ⟨51, _⟩ => ⟨S8x2048x2816, .f32⟩
  | .hbm, ⟨52, _⟩ => ⟨S8x2048x2816, .f32⟩
  | .hbm, ⟨53, _⟩ => ⟨S8x2048x2816, .f32⟩
  | .hbm, ⟨54, _⟩ => ⟨S8x2048x2816, .f32⟩
  | .hbm, ⟨55, _⟩ => ⟨S8x2048x1024, .f32⟩
  | .hbm, ⟨56, _⟩ => ⟨S8x2048x1024, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call0_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_0 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_1 : Ref sig .tc := ⟨.hbm, 47, rfl⟩
abbrev main_v39 : Ref sig .tc := ⟨.hbm, 48, rfl⟩
abbrev main_v40 : Ref sig .tc := ⟨.hbm, 49, rfl⟩
abbrev main_cst_2 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S2x1024x7680 : Shape := ⟨3, ![2, 1024, 7680]⟩
abbrev S2x3x1024 : Shape := ⟨3, ![2, 3, 1024]⟩
abbrev S2x3x512x1024 : Shape := ⟨4, ![2, 3, 512, 1024]⟩
abbrev S2x1024x1024 : Shape := ⟨3, ![2, 1024, 1024]⟩
abbrev S2x6x1024 : Shape := ⟨3, ![2, 6, 1024]⟩
abbrev S1x1024x7680 : Shape := ⟨3, ![1, 1024, 7680]⟩
abbrev S1024x7680 : Shape := ⟨2, ![1024, 7680]⟩
abbrev S1024x3072 : Shape := ⟨2, ![1024, 3072]⟩
abbrev S1x3x512x1024 : Shape := ⟨4, ![1, 3, 512, 1024]⟩
abbrev S3x512x1024 : Shape := ⟨3, ![3, 512, 1024]⟩
abbrev S1x1024x1024 : Shape := ⟨3, ![1, 1024, 1024]⟩
abbrev S1024x1024 : Shape := ⟨2, ![1024, 1024]⟩
abbrev S12x1x1024 : Shape := ⟨3, ![12, 1, 1024]⟩
abbrev S1024x512 : Shape := ⟨2, ![1024, 512]⟩
abbrev S1x3x1024 : Shape := ⟨3, ![1, 3, 1024]⟩
abbrev S1x1x1024 : Shape := ⟨3, ![1, 1, 1024]⟩
abbrev S512x1024 : Shape := ⟨2, ![512, 1024]⟩
abbrev S512x512 : Shape := ⟨2, ![512, 512]⟩
abbrev S1x1024 : Shape := ⟨2, ![1, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 22
  | .vmem => 17
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S2x1024x7680, .f32⟩
  | .hbm, ⟨6, _⟩ => ⟨S2x3x1024, .f32⟩
  | .hbm, ⟨7, _⟩ => ⟨S2x3x512x1024, .f32⟩
  | .hbm, ⟨8, _⟩ => ⟨S2x1024x1024, .f32⟩
  | .hbm, ⟨9, _⟩ => ⟨S2x6x1024, .f32⟩
  | .hbm, ⟨10, _⟩ => ⟨S1x1024x7680, .f32⟩
  | .hbm, ⟨11, _⟩ => ⟨S1024x7680, .f32⟩
  | .hbm, ⟨12, _⟩ => ⟨S1024x3072, .f32⟩
  | .hbm, ⟨13, _⟩ => ⟨S1024x3072, .bf16⟩
  | .hbm, ⟨14, _⟩ => ⟨S1x3x512x1024, .f32⟩
  | .hbm, ⟨15, _⟩ => ⟨S3x512x1024, .f32⟩
  | .hbm, ⟨16, _⟩ => ⟨S3x512x1024, .bf16⟩
  | .hbm, ⟨17, _⟩ => ⟨S1x1024x1024, .f32⟩
  | .hbm, ⟨18, _⟩ => ⟨S1024x1024, .f32⟩
  | .hbm, ⟨19, _⟩ => ⟨S1024x1024, .bf16⟩
  | .hbm, ⟨20, _⟩ => ⟨S12x1x1024, .f32⟩
  | .hbm, ⟨21, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x3072, .bf16⟩
  | .local _ .vmem, ⟨11, _⟩ => ⟨S1x3x1024, .f32⟩
  | .local _ .vmem, ⟨12, _⟩ => ⟨S3x512x1024, .bf16⟩
  | .local _ .vmem, ⟨13, _⟩ => ⟨S1024x1024, .bf16⟩
  | .local _ .vmem, ⟨14, _⟩ => ⟨S1x1x1024, .f32⟩
  | .local _ .vmem, ⟨15, _⟩ => ⟨S1024x1024, .f32⟩
  | .local _ .vmem, ⟨16, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16384x1024 : Shape := ⟨2, ![16384, 1024]⟩
abbrev S16384x512 : Shape := ⟨2, ![16384, 512]⟩
abbrev S2x1024x7680 : Shape := ⟨3, ![2, 1024, 7680]⟩
abbrev S2x3x1024 : Shape := ⟨3, ![2, 3, 1024]⟩
abbrev S2x3x512x1024 : Shape := ⟨4, ![2, 3, 512, 1024]⟩
abbrev S2x1024x1024 : Shape := ⟨3, ![2, 1024, 1024]⟩
abbrev S2x6x1024 : Shape := ⟨3, ![2, 6, 1024]⟩
abbrev S1x1024x7680 : Shape := ⟨3, ![1, 1024, 7680]⟩
abbrev S1024x7680 : Shape := ⟨2, ![1024, 7680]⟩
abbrev S1024x3072 : Shape := ⟨2, ![1024, 3072]⟩
abbrev S16384x3072 : Shape := ⟨2, ![16384, 3072]⟩
abbrev S16384x3x1024 : Shape := ⟨3, ![16384, 3, 1024]⟩
abbrev S1x3x1024 : Shape := ⟨3, ![1, 3, 1024]⟩
abbrev S3x1024 : Shape := ⟨2, ![3, 1024]⟩
abbrev S_ : Shape := ⟨0, ![]⟩
abbrev S16384x1x1024 : Shape := ⟨3, ![16384, 1, 1024]⟩
abbrev S1x1x512x1024 : Shape := ⟨4, ![1, 1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S2x1024x7680, .f32⟩
  | .hbm, ⟨6, _⟩ => ⟨S2x3x1024, .f32⟩
  | .hbm, ⟨7, _⟩ => ⟨S2x3x512x1024, .f32⟩
  | .hbm, ⟨8, _⟩ => ⟨S2x1024x1024, .f32⟩
  | .hbm, ⟨9, _⟩ => ⟨S2x6x1024, .f32⟩
  | .hbm, ⟨10, _⟩ => ⟨S16384x1024, .f32⟩
  | .hbm, ⟨11, _⟩ => ⟨S1x1024x7680, .f32⟩
  | .hbm, ⟨12, _⟩ => ⟨S1024x7680, .f32⟩
  | .hbm, ⟨13, _⟩ => ⟨S1024x3072, .f32⟩
  | .hbm, ⟨14, _⟩ => ⟨S16384x3072, .f32⟩
  | .hbm, ⟨15, _⟩ => ⟨S16384x3x1024, .f32⟩
  | .hbm, ⟨16, _⟩ => ⟨S1x3x1024, .f32⟩
  | .hbm, ⟨17, _⟩ => ⟨S3x1024, .f32⟩
  | .hbm, ⟨18, _⟩ => ⟨S1x3x1024, .f32⟩
  | .hbm, ⟨19, _⟩ => ⟨S16384x3x1024, .f32⟩
  | .hbm, ⟨20, _⟩ => ⟨S16384x3x1024, .f32⟩
  | .hbm, ⟨21, _⟩ => ⟨S16384x3x1024, .f32⟩
  | .hbm, ⟨22, _⟩ => ⟨S16384x3x1024, .f32⟩
  | .hbm, ⟨23, _⟩ => ⟨S_, .f32⟩
  | .hbm, ⟨24, _⟩ => ⟨S16384x3x1024, .f32⟩
  | .hbm, ⟨25, _⟩ => ⟨S16384x3x1024, .f32⟩
  | .hbm, ⟨26, _⟩ => ⟨S_, .f32⟩
  | .hbm, ⟨27, _⟩ => ⟨S16384x3x1024, .f32⟩
  | .hbm, ⟨28, _⟩ => ⟨S16384x3x1024, .f32⟩
  | .hbm, ⟨29, _⟩ => ⟨S16384x1x1024, .f32⟩
  | .hbm, ⟨30, _⟩ => ⟨S16384x1024, .f32⟩
  | .hbm, ⟨31, _⟩ => ⟨S16384x512, .f32⟩
  | .hbm, ⟨32, _⟩ => ⟨S1x1x512x1024, .f32⟩
  | .hbm, ⟨33, _⟩ => ⟨S512x1024, .f32⟩
  | .hbm, ⟨34, _⟩ => ⟨S16384x1024, .f32⟩
  | .hbm, ⟨35, _⟩ => ⟨S16384x1024, .f32⟩
  | .hbm, ⟨36, _⟩ => ⟨S16384x1x1024, .f32⟩
  | .hbm, ⟨37, _⟩ => ⟨S16384x1024, .f32⟩
  | .hbm, ⟨38, _⟩ => ⟨S16384x512, .f32⟩
  | .hbm, ⟨39, _⟩ => ⟨S1x1x512x1024, .f32⟩
  | .hbm, ⟨40, _⟩ => ⟨S512x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1x1024, .f32⟩
  | .hbm, ⟨45, _⟩ => ⟨S16384x1024, .f32⟩
  | .hbm, ⟨46, _⟩ => ⟨S16384x512, .f32⟩
  | .hbm, ⟨47, _⟩ => ⟨S1x1x512x1024, .f32⟩
  | .hbm, ⟨48, _⟩ => ⟨S512x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S1x1024x1024, .f32⟩
  | .hbm, ⟨53, _⟩ => ⟨S1024x1024, .f32⟩
  | .hbm, ⟨54, _⟩ => ⟨S16384x1024, .f32⟩
  | .hbm, ⟨55, _⟩ => ⟨S1x1x1024, .f32⟩
  | .hbm, ⟨56, _⟩ => ⟨S1024, .f32⟩
  | .hbm, ⟨57, _⟩ => ⟨S16384x1024, .f32⟩
  | .hbm, ⟨58, _⟩ => ⟨S_, .f32⟩
  | .hbm, ⟨59, _⟩ => ⟨S16384, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S16384x1, .f32⟩
  | .hbm, ⟨68, _⟩ => ⟨S16384x1024, .f32⟩
  | .hbm, ⟨69, _⟩ => ⟨S16384x1024, .f32⟩
  | .hbm, ⟨70, _⟩ => ⟨S1x1024, .f32⟩
  | .hbm, ⟨71, _⟩ => ⟨S16384x1024, .f32⟩
  | .hbm, ⟨72, _⟩ => ⟨S16384x1024, .f32⟩
  | .hbm, ⟨73, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_1 : Ref sig .tc := ⟨.hbm, 58, rfl⟩
abbrev main_v46 : Ref sig .tc := ⟨.hbm, 59, rfl⟩
abbrev main_v47 : Ref sig .tc := ⟨.hbm, 60, rfl⟩
abbrev main_cst_2 : Ref sig .tc := ⟨.hbm, 61, rfl⟩
abbrev main_v48 : Ref sig .tc := ⟨.hbm, 62, rfl⟩
abbrev main_v49 : Ref sig .tc := ⟨.hbm, 63, rfl⟩
abbrev main_cst_3 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== Kernel4.lean ====
abbrev S8x2048x1024 : Shape := ⟨3, ![8, 2048, 1024]⟩
abbrev S2x1024x7680 : Shape := ⟨3, ![2, 1024, 7680]⟩
abbrev S2x3x512 : Shape := ⟨3, ![2, 3, 512]⟩
abbrev S8x2048x512 : Shape := ⟨3, ![8, 2048, 512]⟩
abbrev S1x2048x1024 : Shape := ⟨3, ![1, 2048, 1024]⟩
abbrev S1x1024x256 : Shape := ⟨3, ![1, 1024, 256]⟩
abbrev S1x3x256 : Shape := ⟨3, ![1, 3, 256]⟩
abbrev S1x2048x256 : Shape := ⟨3, ![1, 2048, 256]⟩
abbrev S1024x256 : Shape := ⟨2, ![1024, 256]⟩
abbrev S1x528x1024 : Shape := ⟨3, ![1, 528, 1024]⟩
abbrev S528x1024 : Shape := ⟨2, ![528, 1024]⟩
abbrev S528x256 : Shape := ⟨2, ![528, 256]⟩
abbrev S1x544x1024 : Shape := ⟨3, ![1, 544, 1024]⟩
abbrev S544x1024 : Shape := ⟨2, ![544, 1024]⟩
abbrev S544x256 : Shape := ⟨2, ![544, 256]⟩
abbrev S8x256 : Shape := ⟨2, ![8, 256]⟩
abbrev S1x1x256 : Shape := ⟨3, ![1, 1, 256]⟩
abbrev S1x256 : Shape := ⟨2, ![1, 256]⟩
abbrev S512x256 : Shape := ⟨2, ![512, 256]⟩
abbrev S1x512x256 : Shape := ⟨3, ![1, 512, 256]⟩
abbrev S560x256 : Shape := ⟨2, ![560, 256]⟩

abbrev nBuf : Space → Nat
  | .hbm => 4
  | .vmem => 12
  | .smem => 0
  | _ => 0

abbrev bufTy : (tb : Table) → Fin (tcTables nBuf tb) → BufTy
  | .hbm, ⟨0, _⟩ => ⟨S8x2048x1024, .bf16⟩
  | .hbm, ⟨1, _⟩ => ⟨S2x1024x7680, .f32⟩
  | .hbm, ⟨2, _⟩ => ⟨S2x3x512, .f32⟩
  | .hbm, ⟨3, _⟩ => ⟨S8x2048x512, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x1024x256, .f32⟩
  | .local _ .vmem, ⟨7, _⟩ => ⟨S1x1024x256, .f32⟩
  | .local _ .vmem, ⟨8, _⟩ => ⟨S1x3x256, .f32⟩
  | .local _ .vmem, ⟨9, _⟩ => ⟨S1x3x256, .f32⟩
  | .local _ .vmem, ⟨10, _⟩ => ⟨S1x2048x256, .bf16⟩
  | .local _ .vmem, ⟨11, _⟩ => ⟨S1x2048x256, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8x2048x1024 : Shape := ⟨3, ![8, 2048, 1024]⟩
abbrev S2x1024x7680 : Shape := ⟨3, ![2, 1024, 7680]⟩
abbrev S2x3x512 : Shape := ⟨3, ![2, 3, 512]⟩
abbrev S1x1024x7680 : Shape := ⟨3, ![1, 1024, 7680]⟩
abbrev S1024x7680 : Shape := ⟨2, ![1024, 7680]⟩
abbrev S1024x1536 : Shape := ⟨2, ![1024, 1536]⟩
abbrev S8x2048x1536 : Shape := ⟨3, ![8, 2048, 1536]⟩
abbrev S8x2048x512 : Shape := ⟨3, ![8, 2048, 512]⟩
abbrev S1x3x512 : Shape := ⟨3, ![1, 3, 512]⟩
abbrev S3x512 : Shape := ⟨2, ![3, 512]⟩
abbrev S_ : Shape := ⟨0, ![]⟩
abbrev S8x2050x512 : Shape := ⟨3, ![8, 2050, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S2x1024x7680, .f32⟩
  | .hbm, ⟨2, _⟩ => ⟨S2x3x512, .f32⟩
  | .hbm, ⟨3, _⟩ => ⟨S8x2048x1024, .f32⟩
  | .hbm, ⟨4, _⟩ => ⟨S1x1024x7680, .f32⟩
  | .hbm, ⟨5, _⟩ => ⟨S1024x7680, .f32⟩
  | .hbm, ⟨6, _⟩ => ⟨S1024x1536, .f32⟩
  | .hbm, ⟨7, _⟩ => ⟨S8x2048x1536, .f32⟩
  | .hbm, ⟨8, _⟩ => ⟨S8x2048x512, .f32⟩
  | .hbm, ⟨9, _⟩ => ⟨S8x2048x512, .f32⟩
  | .hbm, ⟨10, _⟩ => ⟨S8x2048x512, .f32⟩
  | .hbm, ⟨11, _⟩ => ⟨S8x2048x512, .f32⟩
  | .hbm, ⟨12, _⟩ => ⟨S1x3x512, .f32⟩
  | .hbm, ⟨13, _⟩ => ⟨S3x512, .f32⟩
  | .hbm, ⟨14, _⟩ => ⟨S_, .i32⟩
  | .hbm, ⟨15, _⟩ => ⟨S_, .f32⟩
  | .hbm, ⟨16, _⟩ => ⟨S8x2050x512, .f32⟩
  | .hbm, ⟨17, _⟩ => ⟨S8x2048x512, .f32⟩
  | .hbm, ⟨18, _⟩ => ⟨S1x512, .f32⟩
  | .hbm, ⟨19, _⟩ => ⟨S512, .f32⟩
  | .hbm, ⟨20, _⟩ => ⟨S1x1x512, .f32⟩
  | .hbm, ⟨21, _⟩ => ⟨S8x2048x512, .f32⟩
  | .hbm, ⟨22, _⟩ => ⟨S8x2048x512, .f32⟩
  | .hbm, ⟨23, _⟩ => ⟨S8x2048x512, .f32⟩
  | .hbm, ⟨24, _⟩ => ⟨S1x512, .f32⟩
  | .hbm, ⟨25, _⟩ => ⟨S512, .f32⟩
  | .hbm, ⟨26, _⟩ => ⟨S1x1x512, .f32⟩
  | .hbm, ⟨27, _⟩ => ⟨S8x2048x512, .f32⟩
  | .hbm, ⟨28, _⟩ => ⟨S8x2048x512, .f32⟩
  | .hbm, ⟨29, _⟩ => ⟨S8x2048x512, .f32⟩
  | .hbm, ⟨30, _⟩ => ⟨S8x2048x512, .f32⟩
  | .hbm, ⟨31, _⟩ => ⟨S1x512, .f32⟩
  | .hbm, ⟨32, _⟩ => ⟨S512, .f32⟩
  | .hbm, ⟨33, _⟩ => ⟨S1x1x512, .f32⟩
  | .hbm, ⟨34, _⟩ => ⟨S8x2048x512, .f32⟩
  | .hbm, ⟨35, _⟩ => ⟨S8x2048x512, .f32⟩
  | .hbm, ⟨36, _⟩ => ⟨S8x2048x512, .f32⟩
  | .hbm, ⟨37, _⟩ => ⟨S8x2048x512, .f32⟩
  | .hbm, ⟨38, _⟩ => ⟨S8x2048x512, .bf16⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩

abbrev nD : Nat := 1
abbrev τ : Topo := Topo.v7x

variable {F : FTy → Type} [FloatOps F]
-- ==== Kernel5.lean ====
abbrev S16384x1024 : Shape := ⟨2, ![16384, 1024]⟩
abbrev S2x6x1024 : Shape := ⟨3, ![2, 6, 1024]⟩
abbrev S12x1x1024 : Shape := ⟨3, ![12, 1, 1024]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S2x6x1024, .f32⟩
  | .hbm, ⟨3, _⟩ => ⟨S12x1x1024, .f32⟩
  | .hbm, ⟨4, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c11_i32 : BitVec 32 := 11#32
  let c0_i32 : BitVec 32 := 0#32
  let c0_i32_0 : BitVec 32 := 0#32
  let c0_i32_1 : BitVec 32 := 0#32
  ![c11_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16384x1024 : Shape := ⟨2, ![16384, 1024]⟩
abbrev S2x6x1024 : Shape := ⟨3, ![2, 6, 1024]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S2x6x1024, .f32⟩
  | .hbm, ⟨3, _⟩ => ⟨S16384x1024, .f32⟩
  | .hbm, ⟨4, _⟩ => ⟨S1x1x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel6.lean ====
abbrev S8x256x1024 : Shape := ⟨3, ![8, 256, 1024]⟩
abbrev S2x1024 : Shape := ⟨2, ![2, 1024]⟩
abbrev S2x1024x2048 : Shape := ⟨3, ![2, 1024, 2048]⟩
abbrev S2x1x1024 : Shape := ⟨3, ![2, 1, 1024]⟩
abbrev S1x1024x2048 : Shape := ⟨3, ![1, 1024, 2048]⟩
abbrev S1024x2048 : Shape := ⟨2, ![1024, 2048]⟩
abbrev S8x256x2048 : Shape := ⟨3, ![8, 256, 2048]⟩
abbrev S1x256x1024 : Shape := ⟨3, ![1, 256, 1024]⟩
abbrev S1x1x1024 : Shape := ⟨3, ![1, 1, 1024]⟩
abbrev S1x256x2048 : Shape := ⟨3, ![1, 256, 2048]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S256x2048 : Shape := ⟨2, ![256, 2048]⟩

abbrev nBuf : Space → Nat
  | .hbm => 8
  | .vmem => 6
  | .smem => 0
  | _ => 0

abbrev bufTy : (tb : Table) → Fin (tcTables nBuf tb) → BufTy
  | .hbm, ⟨0, _⟩ => ⟨S8x256x1024, .f32⟩
  | .hbm, ⟨1, _⟩ => ⟨S2x1024, .f32⟩
  | .hbm, ⟨2, _⟩ => ⟨S2x1024x2048, .f32⟩
  | .hbm, ⟨3, _⟩ => ⟨S2x1x1024, .f32⟩
  | .hbm, ⟨4, _⟩ => ⟨S1x1024x2048, .f32⟩
  | .hbm, ⟨5, _⟩ => ⟨S1024x2048, .f32⟩
  | .hbm, ⟨6, _⟩ => ⟨S1024x2048, .bf16⟩
  | .hbm, ⟨7, _⟩ => ⟨S8x256x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1024x2048, .bf16⟩
  | .local _ .vmem, ⟨4, _⟩ => ⟨S1x256x2048, .bf16⟩
  | .local _ .vmem, ⟨5, _⟩ => ⟨S1x256x2048, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8x256x1024 : Shape := ⟨3, ![8, 256, 1024]⟩
abbrev S2x1024 : Shape := ⟨2, ![2, 1024]⟩
abbrev S2x1024x2048 : Shape := ⟨3, ![2, 1024, 2048]⟩
abbrev S1x1024 : Shape := ⟨2, ![1, 1024]⟩
abbrev S1024 : Shape := ⟨1, ![1024]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S1x1024x2048 : Shape := ⟨3, ![1, 1024, 2048]⟩
abbrev S1024x2048 : Shape := ⟨2, ![1024, 2048]⟩
abbrev S8x256x2048 : Shape := ⟨3, ![8, 256, 2048]⟩

abbrev nBuf : Space → Nat
  | .hbm => 25
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S2x1024, .f32⟩
  | .hbm, ⟨2, _⟩ => ⟨S2x1024x2048, .f32⟩
  | .hbm, ⟨3, _⟩ => ⟨S1x1024, .f32⟩
  | .hbm, ⟨4, _⟩ => ⟨S1024, .f32⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S1x1024x2048, .f32⟩
  | .hbm, ⟨22, _⟩ => ⟨S1024x2048, .f32⟩
  | .hbm, ⟨23, _⟩ => ⟨S8x256x2048, .f32⟩
  | .hbm, ⟨24, _⟩ => ⟨S8x256x2048, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel7.lean ====
abbrev S16384x1024 : Shape := ⟨2, ![16384, 1024]⟩
abbrev S2x6x1024 : Shape := ⟨3, ![2, 6, 1024]⟩
abbrev S12x1x1024 : Shape := ⟨3, ![12, 1, 1024]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S2x6x1024, .f32⟩
  | .hbm, ⟨3, _⟩ => ⟨S12x1x1024, .f32⟩
  | .hbm, ⟨4, _⟩ => ⟨S16384x1024, .f32⟩
  | .hbm, ⟨5, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_3 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S16384x1024 : Shape := ⟨2, ![16384, 1024]⟩
abbrev S2x6x1024 : Shape := ⟨3, ![2, 6, 1024]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S2x6x1024, .f32⟩
  | .hbm, ⟨3, _⟩ => ⟨S16384x1024, .f32⟩
  | .hbm, ⟨4, _⟩ => ⟨S1x1x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S1x1x1024, .f32⟩
  | .hbm, ⟨24, _⟩ => ⟨S1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S16384x1, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Kernel8.lean ====
abbrev S16384x1024 : Shape := ⟨2, ![16384, 1024]⟩
abbrev S2x6x1024 : Shape := ⟨3, ![2, 6, 1024]⟩
abbrev S12x1x1024 : Shape := ⟨3, ![12, 1, 1024]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S2x6x1024, .f32⟩
  | .hbm, ⟨2, _⟩ => ⟨S12x1x1024, .f32⟩
  | .hbm, ⟨3, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1024x1024, .bf16⟩
  | .local _ .vmem, ⟨4, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S16384x1024 : Shape := ⟨2, ![16384, 1024]⟩
abbrev S2x6x1024 : Shape := ⟨3, ![2, 6, 1024]⟩
abbrev S1x1x1024 : Shape := ⟨3, ![1, 1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x6x1024, .f32⟩
  | .hbm, ⟨2, _⟩ => ⟨S1x1x1024, .f32⟩
  | .hbm, ⟨3, _⟩ => ⟨S1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel9.lean ====
abbrev S2x33x64 : Shape := ⟨3, ![2, 33, 64]⟩
abbrev S2x64 : Shape := ⟨2, ![2, 64]⟩
abbrev S2x64x64 : Shape := ⟨3, ![2, 64, 64]⟩
abbrev S2x64x2048 : Shape := ⟨3, ![2, 64, 2048]⟩
abbrev S2x2x64 : Shape := ⟨3, ![2, 2, 64]⟩
abbrev S_ : Shape := ⟨0, ![]⟩
abbrev S2x1x64 : Shape := ⟨3, ![2, 1, 64]⟩
abbrev S2047 : Shape := ⟨1, ![2047]⟩
abbrev S1 : Shape := ⟨1, ![1]⟩
abbrev S2048 : Shape := ⟨1, ![2048]⟩
abbrev S2048x1 : Shape := ⟨2, ![2048, 1]⟩
abbrev S15 : Shape := ⟨1, ![15]⟩
abbrev S16 : Shape := ⟨1, ![16]⟩
abbrev S1x16 : Shape := ⟨2, ![1, 16]⟩
abbrev S2048x16 : Shape := ⟨2, ![2048, 16]⟩
abbrev S2048x33 : Shape := ⟨2, ![2048, 33]⟩
abbrev S2048x64 : Shape := ⟨2, ![2048, 64]⟩
abbrev S512x4x64 : Shape := ⟨3, ![512, 4, 64]⟩
abbrev S4x512x64 : Shape := ⟨3, ![4, 512, 64]⟩
abbrev S512x4x1 : Shape := ⟨3, ![512, 4, 1]⟩
abbrev S4x512x1 : Shape := ⟨3, ![4, 512, 1]⟩
abbrev S511 : Shape := ⟨1, ![511]⟩
abbrev S512 : Shape := ⟨1, ![512]⟩
abbrev S1x512 : Shape := ⟨2, ![1, 512]⟩
abbrev S2048x1024 : Shape := ⟨2, ![2048, 1024]⟩
abbrev S1x64x64 : Shape := ⟨3, ![1, 64, 64]⟩
abbrev S1x1x64 : Shape := ⟨3, ![1, 1, 64]⟩
abbrev S1x64x2048 : Shape := ⟨3, ![1, 64, 2048]⟩
abbrev S1x2x64 : Shape := ⟨3, ![1, 2, 64]⟩
abbrev S1x64 : Shape := ⟨2, ![1, 64]⟩
abbrev S64x64 : Shape := ⟨2, ![64, 64]⟩
abbrev S2048x512 : Shape := ⟨2, ![2048, 512]⟩
abbrev S1x64x512 : Shape := ⟨3, ![1, 64, 512]⟩
abbrev S64x512 : Shape := ⟨2, ![64, 512]⟩

abbrev nBuf : Space → Nat
  | .hbm => 113
  | .vmem => 11
  | .smem => 0
  | _ => 0

abbrev bufTy : (tb : Table) → Fin (tcTables nBuf tb) → BufTy
  | .hbm, ⟨0, _⟩ => ⟨S2x33x64, .f32⟩
  | .hbm, ⟨1, _⟩ => ⟨S2x64, .f32⟩
  | .hbm, ⟨2, _⟩ => ⟨S2x64x64, .f32⟩
  | .hbm, ⟨3, _⟩ => ⟨S2x64, .f32⟩
  | .hbm, ⟨4, _⟩ => ⟨S2x64x2048, .f32⟩
  | .hbm, ⟨5, _⟩ => ⟨S2x2x64, .f32⟩
  | .hbm, ⟨6, _⟩ => ⟨S_, .i32⟩
  | .hbm, ⟨7, _⟩ => ⟨S_, .f32⟩
  | .hbm, ⟨8, _⟩ => ⟨S2x64x64, .f32⟩
  | .hbm, ⟨9, _⟩ => ⟨S2x1x64, .f32⟩
  | .hbm, ⟨10, _⟩ => ⟨S2x1x64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S2047, .f32⟩
  | .hbm, ⟨19, _⟩ => ⟨S_, .f32⟩
  | .hbm, ⟨20, _⟩ => ⟨S2047, .f32⟩
  | .hbm, ⟨21, _⟩ => ⟨S2047, .f32⟩
  | .hbm, ⟨22, _⟩ => ⟨S1, .f32⟩
  | .hbm, ⟨23, _⟩ => ⟨S_, .f32⟩
  | .hbm, ⟨24, _⟩ => ⟨S2047, .f32⟩
  | .hbm, ⟨25, _⟩ => ⟨S2047, .f32⟩
  | .hbm, ⟨26, _⟩ => ⟨S2047, .f32⟩
  | .hbm, ⟨27, _⟩ => ⟨S2047, .f32⟩
  | .hbm, ⟨28, _⟩ => ⟨S1, .f32⟩
  | .hbm, ⟨29, _⟩ => ⟨S2047, .f32⟩
  | .hbm, ⟨30, _⟩ => ⟨S2047, .f32⟩
  | .hbm, ⟨31, _⟩ => ⟨S2047, .f32⟩
  | .hbm, ⟨32, _⟩ => ⟨S1, .f32⟩
  | .hbm, ⟨33, _⟩ => ⟨S2048, .f32⟩
  | .hbm, ⟨34, _⟩ => ⟨S2048x1, .f32⟩
  | .hbm, ⟨35, _⟩ => ⟨S2048, .f32⟩
  | .hbm, ⟨36, _⟩ => ⟨S2048x1, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S_, .i32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S15, .f32⟩
  | .hbm, ⟨51, _⟩ => ⟨S_, .f32⟩
  | .hbm, ⟨52, _⟩ => ⟨S15, .f32⟩
  | .hbm, ⟨53, _⟩ => ⟨S15, .f32⟩
  | .hbm, ⟨54, _⟩ => ⟨S1, .f32⟩
  | .hbm, ⟨55, _⟩ => ⟨S_, .f32⟩
  | .hbm, ⟨56, _⟩ => ⟨S15, .f32⟩
  | .hbm, ⟨57, _⟩ => ⟨S15, .f32⟩
  | .hbm, ⟨58, _⟩ => ⟨S15, .f32⟩
  | .hbm, ⟨59, _⟩ => ⟨S15, .f32⟩
  | .hbm, ⟨60, _⟩ => ⟨S1, .f32⟩
  | .hbm, ⟨61, _⟩ => ⟨S15, .f32⟩
  | .hbm, ⟨62, _⟩ => ⟨S15, .f32⟩
  | .hbm, ⟨63, _⟩ => ⟨S15, .f32⟩
  | .hbm, ⟨64, _⟩ => ⟨S1, .f32⟩
  | .hbm, ⟨65, _⟩ => ⟨S16, .f32⟩
  | .hbm, ⟨66, _⟩ => ⟨S1x16, .f32⟩
  | .hbm, ⟨67, _⟩ => ⟨S2048x16, .f32⟩
  | .hbm, ⟨68, _⟩ => ⟨S2048x16, .f32⟩
  | .hbm, ⟨69, _⟩ => ⟨S2048x16, .f32⟩
  | .hbm, ⟨70, _⟩ => ⟨S2048x16, .f32⟩
  | .hbm, ⟨71, _⟩ => ⟨S2048x16, .f32⟩
  | .hbm, ⟨72, _⟩ => ⟨S2048x16, .f32⟩
  | .hbm, ⟨73, _⟩ => ⟨S2048x16, .f32⟩
  | .hbm, ⟨74, _⟩ => ⟨S2048x16, .f32⟩
  | .hbm, ⟨75, _⟩ => ⟨S2048x16, .f32⟩
  | .hbm, ⟨76, _⟩ => ⟨S2048x33, .f32⟩
  | .hbm, ⟨77, _⟩ => ⟨S_, .i32⟩
  | .hbm, ⟨78, _⟩ => ⟨S_, .f32⟩
  | .hbm, ⟨79, _⟩ => ⟨S2048x64, .f32⟩
  | .hbm, ⟨80, _⟩ => ⟨S512x4x64, .f32⟩
  | .hbm, ⟨81, _⟩ => ⟨S4x512x64, .f32⟩
  | .hbm, ⟨82, _⟩ => ⟨S2048x64, .f32⟩
  | .hbm, ⟨83, _⟩ => ⟨S512x4x1, .f32⟩
  | .hbm, ⟨84, _⟩ => ⟨S4x512x1, .f32⟩
  | .hbm, ⟨85, _⟩ => ⟨S2048x1, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S511, .f32⟩
  | .hbm, ⟨94, _⟩ => ⟨S_, .f32⟩
  | .hbm, ⟨95, _⟩ => ⟨S511, .f32⟩
  | .hbm, ⟨96, _⟩ => ⟨S511, .f32⟩
  | .hbm, ⟨97, _⟩ => ⟨S1, .f32⟩
  | .hbm, ⟨98, _⟩ => ⟨S_, .f32⟩
  | .hbm, ⟨99, _⟩ => ⟨S511, .f32⟩
  | .hbm, ⟨100, _⟩ => ⟨S511, .f32⟩
  | .hbm, ⟨101, _⟩ => ⟨S511, .f32⟩
  | .hbm, ⟨102, _⟩ => ⟨S511, .f32⟩
  | .hbm, ⟨103, _⟩ => ⟨S1, .f32⟩
  | .hbm, ⟨104, _⟩ => ⟨S511, .f32⟩
  | .hbm, ⟨105, _⟩ => ⟨S511, .f32⟩
  | .hbm, ⟨106, _⟩ => ⟨S511, .f32⟩
  | .hbm, ⟨107, _⟩ => ⟨S1, .f32⟩
  | .hbm, ⟨108, _⟩ => ⟨S512, .f32⟩
  | .hbm, ⟨109, _⟩ => ⟨S512, .f32⟩
  | .hbm, ⟨110, _⟩ => ⟨S1x512, .f32⟩
  | .hbm, ⟨111, _⟩ => ⟨S2048x1024, .bf16⟩
  | .hbm, ⟨112, _⟩ => ⟨S2048x1024, .bf16⟩
  | .local _ .vmem, ⟨0, _⟩ => ⟨S2048x64, .f32⟩
  | .local _ .vmem, ⟨1, _⟩ => ⟨S1x64x64, .f32⟩
  | .local _ .vmem, ⟨2, _⟩ => ⟨S1x1x64, .f32⟩
  | .local _ .vmem, ⟨3, _⟩ => ⟨S1x64x64, .f32⟩
  | .local _ .vmem, ⟨4, _⟩ => ⟨S1x1x64, .f32⟩
  | .local _ .vmem, ⟨5, _⟩ => ⟨S1x64x2048, .f32⟩
  | .local _ .vmem, ⟨6, _⟩ => ⟨S1x2x64, .f32⟩
  | .local _ .vmem, ⟨7, _⟩ => ⟨S2048x1, .f32⟩
  | .local _ .vmem, ⟨8, _⟩ => ⟨S1x512, .f32⟩
  | .local _ .vmem, ⟨9, _⟩ => ⟨S2048x1024, .bf16⟩
  | .local _ .vmem, ⟨10, _⟩ => ⟨S2048x1024, .bf16⟩
  | _, _ => ⟨S2x33x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_cst_0 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_cst : Ref sig .tc := ⟨.hbm, 16, rfl⟩
abbrev main_call1_v3 : Ref sig .tc := ⟨.hbm, 17, rfl⟩
abbrev main_call1_v4 : Ref sig .tc := ⟨.hbm, 18, rfl⟩
abbrev main_call1_cst_0 : Ref sig .tc := ⟨.hbm, 19, rfl⟩
abbrev main_call1_v5 : Ref sig .tc := ⟨.hbm, 20, rfl⟩
abbrev main_call1_v6 : Ref sig .tc := ⟨.hbm, 21, rfl⟩
abbrev main_call1_v7 : Ref sig .tc := ⟨.hbm, 22, rfl⟩
abbrev main_call1_cst_1 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_v12 : Ref sig .tc := ⟨.hbm, 28, rfl⟩
abbrev main_call1_v13 : Ref sig .tc := ⟨.hbm, 29, rfl⟩
abbrev main_call1_v14 : Ref sig .tc := ⟨.hbm, 30, rfl⟩
abbrev main_call1_v15 : Ref sig .tc := ⟨.hbm, 31, rfl⟩
abbrev main_call1_v16 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst_1 : Ref sig .tc := ⟨.hbm, 37, rfl⟩
abbrev main_v7 : Ref sig .tc := ⟨.hbm, 38, rfl⟩
abbrev main_v8 : Ref sig .tc := ⟨.hbm, 39, rfl⟩
abbrev main_cst_2 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_c_4 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_cst : Ref sig .tc := ⟨.hbm, 48, rfl⟩
abbrev main_call2_v3 : Ref sig .tc := ⟨.hbm, 49, rfl⟩
abbrev main_call2_v4 : Ref sig .tc := ⟨.hbm, 50, rfl⟩
abbrev main_call2_cst_0 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_cst_1 : Ref sig .tc := ⟨.hbm, 55, rfl⟩
abbrev main_call2_v8 : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_v12 : Ref sig .tc := ⟨.hbm, 60, rfl⟩
abbrev main_call2_v13 : Ref sig .tc := ⟨.hbm, 61, rfl⟩
abbrev main_call2_v14 : Ref sig .tc := ⟨.hbm, 62, rfl⟩
abbrev main_call2_v15 : Ref sig .tc := ⟨.hbm, 63, rfl⟩
abbrev main_call2_v16 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_c_5 : Ref sig .tc := ⟨.hbm, 77, rfl⟩
abbrev main_call3_v0 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_cst_6 : Ref sig .tc := ⟨.hbm, 86, rfl⟩
abbrev main_cst_7 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_call4_cst : Ref sig .tc := ⟨.hbm, 91, rfl⟩
abbrev main_call4_v3 : Ref sig .tc := ⟨.hbm, 92, rfl⟩
abbrev main_call4_v4 : Ref sig .tc := ⟨.hbm, 93, rfl⟩
abbrev main_call4_cst_0 : Ref sig .tc := ⟨.hbm, 94, rfl⟩
abbrev main_call4_v5 : Ref sig .tc := ⟨.hbm, 95, rfl⟩
abbrev main_call4_v6 : Ref sig .tc := ⟨.hbm, 96, rfl⟩
abbrev main_call4_v7 : Ref sig .tc := ⟨.hbm, 97, rfl⟩
abbrev main_call4_cst_1 : Ref sig .tc := ⟨.hbm, 98, rfl⟩
abbrev main_call4_v8 : Ref sig .tc := ⟨.hbm, 99, rfl⟩
abbrev main_call4_v9 : Ref sig .tc := ⟨.hbm, 100, rfl⟩
abbrev main_call4_v10 : Ref sig .tc := ⟨.hbm, 101, rfl⟩
abbrev main_call4_v11 : Ref sig .tc := ⟨.hbm, 102, rfl⟩
abbrev main_call4_v12 : Ref sig .tc := ⟨.hbm, 103, rfl⟩
abbrev main_call4_v13 : Ref sig .tc := ⟨.hbm, 104, rfl⟩
abbrev main_call4_v14 : Ref sig .tc := ⟨.hbm, 105, rfl⟩
abbrev main_call4_v15 : Ref sig .tc := ⟨.hbm, 106, rfl⟩
abbrev main_call4_v16 : Ref sig .tc := ⟨.hbm, 107, rfl⟩
abbrev main_v30 : Ref sig .tc := ⟨.hbm, 108, rfl⟩
abbrev main_v31 : Ref sig .tc := ⟨.hbm, 109, rfl⟩
abbrev main_v32 : Ref sig .tc := ⟨.hbm, 110, rfl⟩
abbrev main_v33_0 : Ref sig .tc := ⟨.hbm, 111, rfl⟩
abbrev main_v33_1 : Ref sig .tc := ⟨.hbm, 112, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference9Ideal.lean ====
abbrev S2x33x64 : Shape := ⟨3, ![2, 33, 64]⟩
abbrev S2x64 : Shape := ⟨2, ![2, 64]⟩
abbrev S2x64x64 : Shape := ⟨3, ![2, 64, 64]⟩
abbrev S2x64x2048 : Shape := ⟨3, ![2, 64, 2048]⟩
abbrev S2x2x64 : Shape := ⟨3, ![2, 2, 64]⟩
abbrev S1x33x64 : Shape := ⟨3, ![1, 33, 64]⟩
abbrev S33x64 : Shape := ⟨2, ![33, 64]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S1x64x2048 : Shape := ⟨3, ![1, 64, 2048]⟩
abbrev S64x2048 : Shape := ⟨2, ![64, 2048]⟩
abbrev S1x2x64 : Shape := ⟨3, ![1, 2, 64]⟩
abbrev S_ : Shape := ⟨0, ![]⟩
abbrev S2047 : Shape := ⟨1, ![2047]⟩
abbrev S1 : Shape := ⟨1, ![1]⟩
abbrev S2048 : Shape := ⟨1, ![2048]⟩
abbrev S2048x1 : Shape := ⟨2, ![2048, 1]⟩
abbrev S15 : Shape := ⟨1, ![15]⟩
abbrev S16 : Shape := ⟨1, ![16]⟩
abbrev S1x16 : Shape := ⟨2, ![1, 16]⟩
abbrev S2048x16 : Shape := ⟨2, ![2048, 16]⟩
abbrev S2048x33 : Shape := ⟨2, ![2048, 33]⟩
abbrev S2048x64 : Shape := ⟨2, ![2048, 64]⟩
abbrev S2048x2048 : Shape := ⟨2, ![2048, 2048]⟩
abbrev S2048x2x2x512 : Shape := ⟨4, ![2048, 2, 2, 512]⟩
abbrev S511 : Shape := ⟨1, ![511]⟩
abbrev S512 : Shape := ⟨1, ![512]⟩
abbrev S1x512 : Shape := ⟨2, ![1, 512]⟩
abbrev S2048x512 : Shape := ⟨2, ![2048, 512]⟩
abbrev S2048x1x1x512 : Shape := ⟨4, ![2048, 1, 1, 512]⟩
abbrev S2048x1x2x512 : Shape := ⟨4, ![2048, 1, 2, 512]⟩
abbrev S2048x2x512 : Shape := ⟨3, ![2048, 2, 512]⟩
abbrev S1x2x512 : Shape := ⟨3, ![1, 2, 512]⟩
abbrev S2047x2x512 : Shape := ⟨3, ![2047, 2, 512]⟩
abbrev S512x4x1024 : Shape := ⟨3, ![512, 4, 1024]⟩
abbrev S4x512x1024 : Shape := ⟨3, ![4, 512, 1024]⟩
abbrev S2048x1024 : Shape := ⟨2, ![2048, 1024]⟩

abbrev nBuf : Space → Nat
  | .hbm => 157
  | .vmem => 0
  | .smem => 0
  | _ => 0

abbrev hbmTy0_0 (i : Nat) : BufTy := match i % 128 with
  | 0 => ⟨S2x33x64, .f32⟩
  | 1 => ⟨S2x64, .f32⟩
  | 2 => ⟨S2x64x64, .f32⟩
  | 3 => ⟨S2x64, .f32⟩
  | 4 => ⟨S2x64x2048, .f32⟩
  | 5 => ⟨S2x2x64, .f32⟩
  | 6 => ⟨S1x33x64, .f32⟩
  | 7 => ⟨S33x64, .f32⟩
  | 8 => ⟨S1x64, .f32⟩
  | 9 => ⟨S64, .f32⟩
  | 10 => ⟨S1x64x64, .f32⟩
  | 11 => ⟨S64x64, .f32⟩
  | 12 => ⟨S1x64, .f32⟩
  | 13 => ⟨S64, .f32⟩
  | 14 => ⟨S1x64x2048, .f32⟩
  | 15 => ⟨S64x2048, .f32⟩
  | 16 => ⟨S1x2x64, .f32⟩
  | 17 => ⟨S2x64, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S2047, .f32⟩
  | 26 => ⟨S_, .f32⟩
  | 27 => ⟨S2047, .f32⟩
  | 28 => ⟨S2047, .f32⟩
  | 29 => ⟨S1, .f32⟩
  | 30 => ⟨S_, .f32⟩
  | 31 => ⟨S2047, .f32⟩
  | 32 => ⟨S2047, .f32⟩
  | 33 => ⟨S2047, .f32⟩
  | 34 => ⟨S2047, .f32⟩
  | 35 => ⟨S1, .f32⟩
  | 36 => ⟨S2047, .f32⟩
  | 37 => ⟨S2047, .f32⟩
  | 38 => ⟨S2047, .f32⟩
  | 39 => ⟨S1, .f32⟩
  | 40 => ⟨S2048, .f32⟩
  | 41 => ⟨S2048x1, .f32⟩
  | 42 => ⟨S2048, .f32⟩
  | 43 => ⟨S2048x1, .f32⟩
  | 44 => ⟨S_, .f32⟩
  | 45 => ⟨S2048x1, .f32⟩
  | 46 => ⟨S2048x1, .f32⟩
  | 47 => ⟨S_, .f32⟩
  | 48 => ⟨S2048x1, .f32⟩
  | 49 => ⟨S2048x1, .f32⟩
  | 50 => ⟨S_, .f32⟩
  | 51 => ⟨S_, .i32⟩
  | 52 => ⟨S_, .f32⟩
  | 53 => ⟨S_, .f32⟩
  | 54 => ⟨S_, .f32⟩
  | 55 => ⟨S_, .f32⟩
  | 56 => ⟨S_, .f32⟩
  | 57 => ⟨S15, .f32⟩
  | 58 => ⟨S_, .f32⟩
  | 59 => ⟨S15, .f32⟩
  | 60 => ⟨S15, .f32⟩
  | 61 => ⟨S1, .f32⟩
  | 62 => ⟨S_, .f32⟩
  | 63 => ⟨S15, .f32⟩
  | 64 => ⟨S15, .f32⟩
  | 65 => ⟨S15, .f32⟩
  | 66 => ⟨S15, .f32⟩
  | 67 => ⟨S1, .f32⟩
  | 68 => ⟨S15, .f32⟩
  | 69 => ⟨S15, .f32⟩
  | 70 => ⟨S15, .f32⟩
  | 71 => ⟨S1, .f32⟩
  | 72 => ⟨S16, .f32⟩
  | 73 => ⟨S1x16, .f32⟩
  | 74 => ⟨S2048x16, .f32⟩
  | 75 => ⟨S2048x16, .f32⟩
  | 76 => ⟨S2048x16, .f32⟩
  | 77 => ⟨S2048x16, .f32⟩
  | 78 => ⟨S2048x16, .f32⟩
  | 79 => ⟨S2048x16, .f32⟩
  | 80 => ⟨S2048x16, .f32⟩
  | 81 => ⟨S2048x16, .f32⟩
  | 82 => ⟨S2048x16, .f32⟩
  | 83 => ⟨S2048x33, .f32⟩
  | 84 => ⟨S1x64, .f32⟩
  | 85 => ⟨S64, .f32⟩
  | 86 => ⟨S2048x64, .f32⟩
  | 87 => ⟨S1x64, .f32⟩
  | 88 => ⟨S2048x64, .f32⟩
  | 89 => ⟨S2048x64, .f32⟩
  | 90 => ⟨S1x64, .f32⟩
  | 91 => ⟨S2048x64, .f32⟩
  | 92 => ⟨S2048x64, .f32⟩
  | 93 => ⟨S2048x64, .f32⟩
  | 94 => ⟨S1x64, .f32⟩
  | 95 => ⟨S64, .f32⟩
  | 96 => ⟨S2048x64, .f32⟩
  | 97 => ⟨S1x64, .f32⟩
  | 98 => ⟨S2048x64, .f32⟩
  | 99 => ⟨S2048x64, .f32⟩
  | 100 => ⟨S1x64, .f32⟩
  | 101 => ⟨S2048x64, .f32⟩
  | 102 => ⟨S2048x64, .f32⟩
  | 103 => ⟨S2048x64, .f32⟩
  | 104 => ⟨S2048x2048, .f32⟩
  | 105 => ⟨S2048x2x2x512, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S511, .f32⟩
  | 114 => ⟨S_, .f32⟩
  | 115 => ⟨S511, .f32⟩
  | 116 => ⟨S511, .f32⟩
  | 117 => ⟨S1, .f32⟩
  | 118 => ⟨S_, .f32⟩
  | 119 => ⟨S511, .f32⟩
  | 120 => ⟨S511, .f32⟩
  | 121 => ⟨S511, .f32⟩
  | 122 => ⟨S511, .f32⟩
  | 123 => ⟨S1, .f32⟩
  | 124 => ⟨S511, .f32⟩
  | 125 => ⟨S511, .f32⟩
  | 126 => ⟨S511, .f32⟩
  | 127 => ⟨S1, .f32⟩
  | _ => ⟨S2x33x64, .f32⟩

abbrev hbmTy0_1 (i : Nat) : BufTy := match i % 128 with
  | 0 => ⟨S512, .f32⟩
  | 1 => ⟨S512, .f32⟩
  | 2 => ⟨S2048x1, .f32⟩
  | 3 => ⟨S1x512, .f32⟩
  | 4 => ⟨S2048x512, .f32⟩
  | 5 => ⟨S2048x512, .f32⟩
  | 6 => ⟨S2048x512, .f32⟩
  | 7 => ⟨S2048x512, .f32⟩
  | 8 => ⟨S2048x1x1x512, .f32⟩
  | 9 => ⟨S2048x2x2x512, .f32⟩
  | 10 => ⟨S2048x2x2x512, .f32⟩
  | 11 => ⟨S2048x1x2x512, .f32⟩
  | 12 => ⟨S2048x2x512, .f32⟩
  | 13 => ⟨S2048x1x2x512, .f32⟩
  | 14 => ⟨S2048x2x512, .f32⟩
  | 15 => ⟨S_, .f32⟩
  | 16 => ⟨S1x2x512, .f32⟩
  | 17 => ⟨S2047x2x512, .f32⟩
  | 18 => ⟨S2048x2x512, .f32⟩
  | 19 => ⟨S2048x2x512, .f32⟩
  | 20 => ⟨S512x4x1024, .f32⟩
  | 21 => ⟨S4x512x1024, .f32⟩
  | 22 => ⟨S2048x1024, .f32⟩
  | 23 => ⟨S2048x1024, .bf16⟩
  | 24 => ⟨S2048x2x512, .f32⟩
  | 25 => ⟨S512x4x1024, .f32⟩
  | 26 => ⟨S4x512x1024, .f32⟩
  | 27 => ⟨S2048x1024, .f32⟩
  | 28 => ⟨S2048x1024, .bf16⟩
  | _ => ⟨S2x33x64, .f32⟩

abbrev hbmTy (i : Nat) : BufTy := match i / 128 with
  | 0 => hbmTy0_0 i
  | 1 => hbmTy0_1 i
  | _ => ⟨S2x33x64, .f32⟩

abbrev bufTy : (tb : Table) → Fin (tcTables nBuf tb) → BufTy
  | .hbm, ⟨i, _⟩ => hbmTy i
  | _, _ => ⟨S2x33x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_cst : Ref sig .tc := ⟨.hbm, 23, rfl⟩
abbrev main_call0_v3 : Ref sig .tc := ⟨.hbm, 24, rfl⟩
abbrev main_call0_v4 : Ref sig .tc := ⟨.hbm, 25, rfl⟩
abbrev main_call0_cst_0 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_v15 : Ref sig .tc := ⟨.hbm, 38, rfl⟩
abbrev main_call0_v16 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_1 : Ref sig .tc := ⟨.hbm, 44, rfl⟩
abbrev main_v16 : Ref sig .tc := ⟨.hbm, 45, rfl⟩
abbrev main_v17 : Ref sig .tc := ⟨.hbm, 46, rfl⟩
abbrev main_cst_2 : Ref sig .tc := ⟨.hbm, 47, rfl⟩
abbrev main_v18 : Ref sig .tc := ⟨.hbm, 48, rfl⟩
abbrev main_v19 : Ref sig .tc := ⟨.hbm, 49, rfl⟩
abbrev main_cst_3 : Ref sig .tc := ⟨.hbm, 50, rfl⟩
abbrev main_c : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_call1_cst : Ref sig .tc := ⟨.hbm, 55, rfl⟩
abbrev main_call1_v3 : Ref sig .tc := ⟨.hbm, 56, rfl⟩
abbrev main_call1_v4 : Ref sig .tc := ⟨.hbm, 57, rfl⟩
abbrev main_call1_cst_0 : Ref sig .tc := ⟨.hbm, 58, rfl⟩
abbrev main_call1_v5 : Ref sig .tc := ⟨.hbm, 59, rfl⟩
abbrev main_call1_v6 : Ref sig .tc := ⟨.hbm, 60, rfl⟩
abbrev main_call1_v7 : Ref sig .tc := ⟨.hbm, 61, rfl⟩
abbrev main_call1_cst_1 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_v15 : Ref sig .tc := ⟨.hbm, 70, rfl⟩
abbrev main_call1_v16 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_cst_4 : Ref sig .tc := ⟨.hbm, 106, rfl⟩
abbrev main_cst_5 : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_call2_cst : Ref sig .tc := ⟨.hbm, 111, rfl⟩
abbrev main_call2_v3 : Ref sig .tc := ⟨.hbm, 112, rfl⟩
abbrev main_call2_v4 : Ref sig .tc := ⟨.hbm, 113, rfl⟩
abbrev main_call2_cst_0 : Ref sig .tc := ⟨.hbm, 114, rfl⟩
abbrev main_call2_v5 : Ref sig .tc := ⟨.hbm, 115, rfl⟩
abbrev main_call2_v6 : Ref sig .tc := ⟨.hbm, 116, rfl⟩
abbrev main_call2_v7 : Ref sig .tc := ⟨.hbm, 117, rfl⟩
abbrev main_call2_cst_1 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_call2_v11 : Ref sig .tc := ⟨.hbm, 122, rfl⟩
abbrev main_call2_v12 : Ref sig .tc := ⟨.hbm, 123, rfl⟩
abbrev main_call2_v13 : Ref sig .tc := ⟨.hbm, 124, rfl⟩
abbrev main_call2_v14 : Ref sig .tc := ⟨.hbm, 125, rfl⟩
abbrev main_call2_v15 : Ref sig .tc := ⟨.hbm, 126, rfl⟩
abbrev main_call2_v16 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_v59 : Ref sig .tc := ⟨.hbm, 133, rfl⟩
abbrev main_v60 : Ref sig .tc := ⟨.hbm, 134, rfl⟩
abbrev main_v61 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_v66 : Ref sig .tc := ⟨.hbm, 140, rfl⟩
abbrev main_v67 : Ref sig .tc := ⟨.hbm, 141, rfl⟩
abbrev main_v68 : Ref sig .tc := ⟨.hbm, 142, rfl⟩
abbrev main_cst_6 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩

abbrev nD : Nat := 1
abbrev τ : Topo := Topo.v7x

variable {F : FTy → Type} [FloatOps F]
-- ==== Proof.RealSums.lean ====
/- Extended reals that are real numbers, and the few laws of sums and quotients that need it. -/
module

public import Idealize.ShloMosaic.Lib.IdealHost

@[expose] public section

noncomputable section

namespace Cert.RealSums

open Idealize.ShloMosaic
open scoped BigOperators

/-- An extended real that is a real number. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.sum {ι : Type*} {s : Finset ι} {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- What lies strictly below the top in absolute value is a real number. -/
theorem isReal_of_abs_lt {x : EReal} (h : max x (-x) < ⊤) : IsReal x := by
  induction x using EReal.rec with
  | bot => simp at h
  | top => simp at h
  | coe r => exact ⟨r, rfl⟩

/-- A nonnegative real factor goes through a sum of any extended reals. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih, mul_comm, EReal.left_distrib_of_nonneg_of_ne_top (by exact_mod_cast hc) (EReal.coe_ne_top c),
      mul_comm (c : EReal), mul_comm (c : EReal)]

/-- Division by a positive real number is multiplication with its inverse. -/
theorem div_coe_eq (x : EReal) {c : ℝ} (hc : 0 < c) : Ideal.div x (c : EReal) = x * ((c⁻¹ : ℝ) : EReal) := by
  rw [Ideal.div, if_neg (by exact_mod_cast hc.ne'), EReal.coe_inv]

theorem mul_self_eq_top {x : EReal} (h : ¬ IsReal x) : x * x = ⊤ := by
  induction x using EReal.rec with
  | bot => rfl
  | top => rfl
  | coe r => exact absurd ⟨r, rfl⟩ h

theorem zero_le_mul_self (x : EReal) : 0 ≤ x * x := by
  induction x using EReal.rec with
  | bot => rw [mul_self_eq_top (by rintro ⟨r, h⟩; exact absurd h (by simp))]; exact le_top
  | top => rw [mul_self_eq_top (by rintro ⟨r, h⟩; exact absurd h (by simp))]; exact le_top
  | coe r => rw [← EReal.coe_mul]; exact_mod_cast mul_self_nonneg r

/-- A row divided by its root mean square is real in every place, whatever the row holds: a row with an infinite
entry has the inverse root zero. -/
theorem isReal_normed {ι : Type*} [Fintype ι] (f : ι → EReal) {n e : ℝ} (hn : 0 < n) (he : 0 < e) (i : ι) :
    IsReal (f i * Ideal.rsqrt (Ideal.div (∑ j, f j * f j) (n : EReal) + (e : EReal))) := by
  by_cases h : ∀ j, IsReal (f j)
  · obtain ⟨s, hs⟩ := IsReal.sum (s := Finset.univ) fun j => (h j).mul (h j)
    have hs0 : 0 ≤ s := by
      have : (0 : EReal) ≤ (s : EReal) := hs ▸ Finset.sum_nonneg fun j _ => zero_le_mul_self (f j)
      exact_mod_cast this
    have hp : 0 < s * n⁻¹ + e := by positivity
    rw [hs, div_coe_eq _ hn, ← EReal.coe_mul, ← EReal.coe_add, Ideal.rsqrt_coe, if_neg hp.not_gt, if_neg hp.ne']
    exact (h i).mul ⟨_, rfl⟩
  · obtain ⟨j, hj⟩ := not_forall.mp h
    have hs : (∑ j, f j * f j) = ⊤ := by
      apply top_le_iff.mp
      rw [← mul_self_eq_top hj]
      exact Finset.single_le_sum (f := fun j => f j * f j) (fun j _ => zero_le_mul_self (f j)) (Finset.mem_univ j)
    rw [hs, div_coe_eq _ hn, EReal.top_mul_coe_of_pos (by positivity), EReal.top_add_coe, Ideal.rsqrt_top, mul_zero]
    exact ⟨0, rfl⟩

/-- The largest of finitely many real numbers, at least one, is real. -/
theorem isReal_fold_max {ι : Type*} [Fintype ι] [Nonempty ι] (f : ι → EReal) (h : ∀ i, IsReal (f i)) :
    IsReal (Finset.fold max ⊥ f Finset.univ) := by
  classical
  have : ∀ s : Finset ι, s.Nonempty → IsReal (Finset.fold max ⊥ f s) := by
    intro s
    induction s using Finset.induction_on with
    | empty => exact fun h => absurd h Finset.not_nonempty_empty
    | insert a s ha ih =>
      intro _
      rw [Finset.fold_insert ha]
      by_cases hs : s.Nonempty
      · rcases max_choice (f a) (Finset.fold max ⊥ f s) with e | e <;> rw [e]
        · exact h a
        · exact ih hs
      · rw [Finset.not_nonempty_iff_eq_empty.mp hs, Finset.fold_empty, max_eq_left bot_le]
        exact h a
  exact this _ Finset.univ_nonempty

/-- One row of the attention: dividing the weighted sum by the weights' sum is dividing every weight, the scores being
real numbers. -/
theorem softmax_row {ι : Type*} [Fintype ι] [Nonempty ι] (s v : ι → EReal) (hs : ∀ j, IsReal (s j)) :
    Ideal.div (∑ j, Ideal.exp (s j - Finset.fold max ⊥ s Finset.univ) * v j) (∑ j, Ideal.exp (s j - Finset.fold max ⊥ s Finset.univ))
      = ∑ j, v j * Ideal.div (Ideal.exp (s j - Finset.fold max ⊥ s Finset.univ)) (∑ j, Ideal.exp (s j - Finset.fold max ⊥ s Finset.univ)) := by
  obtain ⟨M, hM⟩ := isReal_fold_max s hs
  choose r hr using hs
  have he : ∀ j, Ideal.exp (s j - Finset.fold max ⊥ s Finset.univ) = ((Real.exp (r j - M) : ℝ) : EReal) := by
    intro j
    rw [hM, hr j, ← EReal.coe_sub, Ideal.exp_coe]
  have hd : (∑ j, Ideal.exp (s j - Finset.fold max ⊥ s Finset.univ)) = ((∑ j, Real.exp (r j - M) : ℝ) : EReal) := by
    simp only [he]
    exact (map_sum (⟨⟨fun x : ℝ => (x : EReal), rfl⟩, EReal.coe_add⟩ : ℝ →+ EReal) _ _).symm
  have hp : 0 < ∑ j, Real.exp (r j - M) := Finset.sum_pos (fun j _ => Real.exp_pos _) Finset.univ_nonempty
  rw [hd, div_coe_eq _ hp, sum_mul_coe _ _ (by positivity)]
  refine Finset.sum_congr rfl fun j _ => ?_
  rw [div_coe_eq _ hp, mul_right_comm, mul_comm]

end Cert.RealSums

end
-- ==== Proof.Finite.lean ====
/- The entries of an array whose absolute values are all below infinity are real. -/
module

public import proofs.«01_k».proof.Proof.RealSums
public import proofs.«01_k».proof.Pre_finite
public import proofs.«01_k».proof.Proof.Gen.Pre_finite
public import Idealize.ShloMosaic.Lib.ReduceAll

@[expose] public section

set_option maxRecDepth 16384

noncomputable section

namespace Cert.RealSums

open Idealize.ShloMosaic

theorem and_one {s : Shape} (a b : IVec s 1) (i : s.Idx) (h : andi a b i = 1#1) : a i = 1#1 ∧ b i = 1#1 := by
  change a i &&& b i = 1#1 at h
  generalize a i = p at h ⊢
  generalize b i = q at h ⊢
  revert p q
  decide

theorem isReal_of_olt (x y : EReal) (hy : y = ⊤) (h : FloatOps.cmpf (F := Ideal) (φ := .f32) .olt (max x (-x)) y = 1#1) : IsReal x := by
  refine isReal_of_abs_lt ?_
  subst hy
  by_contra hn
  simp [FloatOps.cmpf, Ideal.cmp, hn] at h

theorem infinity32 : FloatOps.ofBits (F := Ideal) FTy.f32 0x7F800000#32 = (⊤ : EReal) := by
  rw [Ideal.ofBits_def]
  simp [Ideal.ofBits, Ideal.ieee]

theorem infinity16 : FloatOps.ofBits (F := Ideal) FTy.bf16 0x7F80#16 = (⊤ : EReal) := by
  rw [Ideal.ofBits_def]
  simp [Ideal.ofBits, Ideal.ieee]

theorem finite_arrays (x0 : FVec Ideal Cert.Pre_finite.S8x2048x1024 .f32) (x1 : FVec Ideal Cert.Pre_finite.S8x256x2048 .bf16)
    (x2 x3 : FVec Ideal Cert.Pre_finite.S2x1024x1024 .f32) (x4 : FVec Ideal Cert.Pre_finite.S2x6x1024 .f32)
    (h : Cert.Pre_finite.fn (F := Ideal) x0 x1 x2 x3 x4 = fun _ => 1#1) : (∀ i, IsReal (x1 i)) ∧ (∀ i, IsReal (x2 i)) ∧ ∀ i, IsReal (x4 i) := by
  have e := congrFun h (Shape.Idx.first Cert.Pre_finite.Gen.facts.h_S_)
  dsimp only [Cert.Pre_finite.fn] at e
  obtain ⟨e12, e4⟩ := and_one _ _ _ e
  obtain ⟨e1, e2⟩ := and_one _ _ _ e12
  refine ⟨fun i => ?_, fun i => ?_, fun i => ?_⟩
  · exact isReal_of_olt _ _ infinity16 (Host.reduce_andi_all _ _ _ _ _ e1 i)
  · exact isReal_of_olt _ _ infinity32 (Host.reduce_andi_all _ _ _ _ _ e2 i)
  · exact isReal_of_olt _ _ infinity32 (Host.reduce_andi_all _ _ _ _ _ e4 i)

end Cert.RealSums

end
-- ==== Proof.XattnChunks.lean ====
/- The attention's body works on four chunks of rows: what it computes of each is one and the same function of the chunk. -/
module

public import proofs.«01_k».proof.Proof.Gen.KernelIdeal.Frame

@[expose] public section

set_option maxRecDepth 16384

noncomputable section

namespace Cert.Xattn

open Cert.KernelIdeal Cert.KernelIdeal.Gen Idealize.ShloMosaic

variable {F : FTy → Type} [FloatOps F]

/-- The scaled queries of a chunk. -/
def queryOf (x : Vec F S1x256x1024 .f32) (g : Vec F S1x1x1024 .f32) (w : Vec F S1024x1024 .bf16) : FVec F S256x1024 .bf16 :=
  k0_pay2 x g w

/-- One head: the softmax of the scores against the head's values. -/
def headOf (s : FVec F S256x256 .f32) (v : Vec F S1x256x256 .bf16) : FVec F S256x256 .bf16 :=
  k0_pay30 s v

/-- The four heads side by side. -/
def attendOf (q : FVec F S256x1024 .bf16) (kv : Vec F S1x256x2048 .bf16) : FVec F S256x1024 .bf16 :=
  concatenate S256x1024 1
    [⟨S256x256, headOf (k0_pay11 q (View.ld kv r0_6)) (View.ld kv r0_10)⟩, ⟨S256x256, headOf (k0_pay12 q (View.ld kv r0_7)) (View.ld kv r0_11)⟩,
      ⟨S256x256, headOf (k0_pay13 q (View.ld kv r0_8)) (View.ld kv r0_12)⟩, ⟨S256x256, headOf (k0_pay14 q (View.ld kv r0_9)) (View.ld kv r0_13)⟩]
    concatenates_S256x256_S256x256_S256x256_S256x256_S256x1024_d1

/-- The chunk's rows after the attention is added. -/
def addedOf (a : FVec F S256x1024 .bf16) (w : Vec F S1024x1024 .bf16) (x : Vec F S1x256x1024 .f32) (g : Vec F S1x1x1024 .f32) : FVec F S256x1024 .f32 :=
  k0_pay44 a w x g

/-- What the first store of a chunk writes. -/
def rowsOf (y : FVec F S256x1024 .f32) : FVec F S1x256x1024 .f32 :=
  shapeCast S1x256x1024 y shapeCasts_S256x1024_S1x256x1024

/-- What the second store of a chunk writes: the rows normalised. -/
def normedOf (y : FVec F S256x1024 .f32) (g : Vec F S1x1x1024 .f32) : FVec F S1x256x1024 .bf16 :=
  k0_pay1 y g

variable (x0 : Vec F S1x1024x1024 .f32) (x1 : Vec F S1x256x2048 .bf16) (x2 : Vec F S1024x1024 .bf16) (x3 : Vec F S1024x1024 .bf16)
  (x4 x5 x6 : Vec F S1x1x1024 .f32)

theorem query0 : k0_pay60 x0 x1 x2 x3 x4 x5 x6 = queryOf (View.ld x0 r0_0) (View.ld x4 r0_1) (View.ld x2 r0_2) := rfl
theorem query1 : k0_pay61 x0 x1 x2 x3 x4 x5 x6 = queryOf (View.ld x0 r0_3) (View.ld x4 r0_1) (View.ld x2 r0_2) := rfl
theorem query2 : k0_pay62 x0 x1 x2 x3 x4 x5 x6 = queryOf (View.ld x0 r0_4) (View.ld x4 r0_1) (View.ld x2 r0_2) := rfl
theorem query3 : k0_pay63 x0 x1 x2 x3 x4 x5 x6 = queryOf (View.ld x0 r0_5) (View.ld x4 r0_1) (View.ld x2 r0_2) := rfl

theorem attend0 : k0_pay64 x0 x1 x2 x3 x4 x5 x6 = attendOf (queryOf (View.ld x0 r0_0) (View.ld x4 r0_1) (View.ld x2 r0_2)) x1 := by
  rw [← query0 x0 x1 x2 x3 x4 x5 x6]; unfold k0_pay64; generalize k0_pay60 x0 x1 x2 x3 x4 x5 x6 = q; rfl
theorem attend1 : k0_pay65 x0 x1 x2 x3 x4 x5 x6 = attendOf (queryOf (View.ld x0 r0_3) (View.ld x4 r0_1) (View.ld x2 r0_2)) x1 := by
  rw [← query1 x0 x1 x2 x3 x4 x5 x6]; unfold k0_pay65; generalize k0_pay61 x0 x1 x2 x3 x4 x5 x6 = q; rfl
theorem attend2 : k0_pay66 x0 x1 x2 x3 x4 x5 x6 = attendOf (queryOf (View.ld x0 r0_4) (View.ld x4 r0_1) (View.ld x2 r0_2)) x1 := by
  rw [← query2 x0 x1 x2 x3 x4 x5 x6]; unfold k0_pay66; generalize k0_pay62 x0 x1 x2 x3 x4 x5 x6 = q; rfl
theorem attend3 : k0_pay67 x0 x1 x2 x3 x4 x5 x6 = attendOf (queryOf (View.ld x0 r0_5) (View.ld x4 r0_1) (View.ld x2 r0_2)) x1 := by
  rw [← query3 x0 x1 x2 x3 x4 x5 x6]; unfold k0_pay67; generalize k0_pay63 x0 x1 x2 x3 x4 x5 x6 = q; rfl

section Stores

variable (a : FVec F S256x1024 .bf16) (w : Vec F S1024x1024 .bf16) (x : Vec F S1x256x1024 .f32) (g g' : Vec F S1x1x1024 .f32)

theorem rows0 : k0_pay45 a w x g = rowsOf (addedOf a w x g) := rfl
theorem rows1 : k0_pay49 a w x g = rowsOf (addedOf a w x g) := rfl
theorem rows2 : k0_pay54 a w x g = rowsOf (addedOf a w x g) := rfl
theorem rows3 : k0_pay59 a w x g = rowsOf (addedOf a w x g) := rfl

theorem normed0 : k0_pay47 (k0_pay46 a w x g g') = normedOf (addedOf a w x g) g' := rfl
theorem normed1 : k0_pay52 (k0_pay48 a w x g) (k0_pay50 g') (k0_pay51 a w x g) = normedOf (addedOf a w x g) g' := rfl
theorem normed2 : k0_pay57 (k0_pay53 a w x g) (k0_pay55 g') (k0_pay56 a w x g) = normedOf (addedOf a w x g) g' := rfl
theorem normed3 : k0_pay1 (k0_pay58 a w x g) g' = normedOf (addedOf a w x g) g' := rfl

end Stores

end Cert.Xattn

end
-- ==== Proof.XattnRows.lean ====
/- The stages of the attention, row by row of one chunk: queries, scores and heads are the reference's. -/
module

public import proofs.«01_k».proof.Proof.XattnChunks
public import proofs.«01_k».proof.Proof.RealSums
public import proofs.«01_k».proof.Proof.Gen.ReferenceIdeal.Read
public import Idealize.ShloMosaic.Lib.Pipeline.ValueKit

@[expose] public section

set_option maxRecDepth 16384
set_option maxHeartbeats 2000000

noncomputable section

namespace Cert.Xattn

open Cert.KernelIdeal Cert.KernelIdeal.Gen Cert.ReferenceIdeal.Read Idealize.ShloMosaic Idealize.ShloMosaic.TcCoe Idealize.SL.Sem
open Cert.RealSums

theorem sixteenth : Ideal.ofBits .f32 1031798784#32 = (((1 : ℝ) / 16 : ℝ) : EReal) := by
  simp [Ideal.ofBits, Ideal.ieee, -EReal.coe_mul]; norm_num

theorem negInf : Ideal.ofBits .f32 4286578688#32 = ⊥ := by
  simp [Ideal.ofBits, Ideal.ieee]

theorem width : Ideal.ofBits .f32 1149239296#32 = ((1024 : ℝ) : EReal) := by
  simp [Ideal.ofBits, Ideal.ieee, -EReal.coe_mul]; norm_num

theorem epsilon : ∃ e : ℝ, 0 < e ∧ Ideal.ofBits .f32 897988541#32 = (e : EReal) := by
  refine ⟨_, ?_, by simp [Ideal.ofBits, Ideal.ieee, -EReal.coe_mul]; rfl⟩
  positivity

variable (X : Vec Ideal Cert.ReferenceIdeal.S8x2048x1024 .f32) (KV : Vec Ideal Cert.ReferenceIdeal.S8x256x2048 .bf16)
  (WQ : Vec Ideal Cert.ReferenceIdeal.S2x1024x1024 .f32) (G : Vec Ideal Cert.ReferenceIdeal.S2x6x1024 .f32)

/-- A chunk's queries are the reference's projections, scaled. -/
theorem query_apply (x : Vec Ideal S1x256x1024 .f32) (g : Vec Ideal S1x1x1024 .f32) (w : Vec Ideal S1024x1024 .bf16)
    (i : S256x1024.Idx) (b : Fin 8) (r : Fin 2048) (hx : ∀ k, x (ix3 0 (i 0) k) = X (ix3 b r k))
    (hg : ∀ k, g (ix3 0 0 k) = G (ix3 0 2 k)) (hw : ∀ k j, w (ix2 k j) = WQ (ix3 0 k j)) :
    queryOf x g w i = val_main_v17 (F := Ideal) X WQ G (ix3 b r (i 1)) * (((1 : ℝ) / 16 : ℝ) : EReal) := by
  rw [← sixteenth]
  pointwise [queryOf, k0_pay2, val_main_v0, val_main_v1, val_main_v2, val_main_v3, val_main_v4, val_main_v5, val_main_v6, val_main_v7, val_main_v8, val_main_v9,
    val_main_v10, val_main_v11, val_main_v12, val_main_v13, val_main_v14, val_main_v15, val_main_v16, val_main_v17, val_main_cst, val_main_cst_0, val_main_cst_1]
  simp only [hx, hg, hw _ (i 1)]

/-- The reference's projections are real numbers where the weights and the gains are. -/
theorem projection_isReal (hG : ∀ i, IsReal (G i)) (hW : ∀ i, IsReal (WQ i)) (b : Fin 8) (r : Fin 2048) (k : Fin 1024) :
    IsReal (val_main_v17 (F := Ideal) X WQ G (ix3 b r k)) := by
  pointwise [val_main_v0, val_main_v1, val_main_v2, val_main_v3, val_main_v4, val_main_v5, val_main_v6, val_main_v7, val_main_v8, val_main_v9,
    val_main_v10, val_main_v11, val_main_v12, val_main_v13, val_main_v14, val_main_v15, val_main_v16, val_main_v17, val_main_cst, val_main_cst_0, val_main_cst_1]
  obtain ⟨e, he, hb⟩ := epsilon
  rw [width, hb]
  exact IsReal.sum fun j => ((isReal_normed (fun j => X (ix3 b r j)) (by norm_num) he j).mul (hG _)).mul (hW _)

/-- The reference's scaled scores of one row against one memory entry, in one head. -/
theorem score_apply (b : Fin 8) (n : Fin 4) (r : Fin 2048) (j : Fin 256) :
    val_main_v26 (F := Ideal) X KV WQ G (ix4 b n r j)
      = (∑ d : Fin 256, val_main_v17 (F := Ideal) X WQ G (ix3 b r ⟨n.val * 256 + d.val, by omega⟩) * KV (ix3 b j ⟨n.val * 256 + d.val, by omega⟩))
        * (((1 : ℝ) / 16 : ℝ) : EReal) := by
  rw [← sixteenth]
  pointwise [val_main_v18, val_main_v19, val_main_v20, val_main_v22, val_main_v24, val_main_v25, val_main_v26, val_main_cst_2]

theorem score_isReal (hG : ∀ i, IsReal (G i)) (hW : ∀ i, IsReal (WQ i)) (hK : ∀ i, IsReal (KV i)) (b : Fin 8) (n : Fin 4) (r : Fin 2048)
    (j : Fin 256) : IsReal (val_main_v26 (F := Ideal) X KV WQ G (ix4 b n r j)) := by
  rw [score_apply]
  exact (IsReal.sum fun d => (projection_isReal X WQ G hG hW b r _).mul (hK _)).mul (isReal_coe _)

/-- The reference's attended rows, in one head: the weights against the values. -/
theorem weighted_apply (b : Fin 8) (r : Fin 2048) (n : Fin 4) (d : Fin 256) :
    val_main_v38 (F := Ideal) X KV WQ G (ix4 b n d r)
      = ∑ j, KV (ix3 b j ⟨1024 + (n.val * 256 + d.val), by omega⟩) * val_main_v37 (F := Ideal) X KV WQ G (ix4 b n r j) := by
  pointwise [val_main_v38, val_main_v23, val_main_v21, val_main_v19]

/-- The largest score of a row, in one head. -/
theorem largest_apply (b : Fin 8) (r : Fin 2048) (n : Fin 4) :
    val_main_v27 (F := Ideal) X KV WQ G (ix3 b n r) = Finset.fold max ⊥ (fun j => val_main_v26 (F := Ideal) X KV WQ G (ix4 b n r j)) Finset.univ := by
  unfold val_main_v27
  generalize val_main_v26 (F := Ideal) X KV WQ G = s
  pointwise [val_main_cst_3]
  rw [negInf]

/-- The exponentials of the scores above the largest. -/
theorem exp_apply (b : Fin 8) (r : Fin 2048) (n : Fin 4) (j : Fin 256) : val_main_v33 (F := Ideal) X KV WQ G (ix4 b n r j)
    = Ideal.exp (val_main_v26 (F := Ideal) X KV WQ G (ix4 b n r j) - val_main_v27 (F := Ideal) X KV WQ G (ix3 b n r)) := by
  have hi : idx_main_v30 (idx_main_v31 (ix4 b n r j)) = ix3 b n r := funext fun a => by match a with | ⟨0, _⟩ => rfl | ⟨1, _⟩ => rfl | ⟨2, _⟩ => rfl
  rw [val_main_v33_apply, val_main_v32_apply, val_main_v31_apply, val_main_v30_apply, val_main_v29_apply, val_main_v28_apply, val_main_cst_4_apply, hi]
  generalize val_main_v26 (F := Ideal) X KV WQ G (ix4 b n r j) = s
  generalize val_main_v27 (F := Ideal) X KV WQ G (ix3 b n r) = l
  rw [Ideal.hostUnary_exp_def, Ideal.subf_def, Ideal.maximumf_def, Ideal.ofBits_def, negInf, max_eq_right bot_le]

/-- The softmax weights: the exponentials over their sum. -/
theorem quotient_apply (b : Fin 8) (r : Fin 2048) (n : Fin 4) (j : Fin 256) : val_main_v37 (F := Ideal) X KV WQ G (ix4 b n r j)
    = Ideal.div (val_main_v33 (F := Ideal) X KV WQ G (ix4 b n r j)) (∑ j, val_main_v33 (F := Ideal) X KV WQ G (ix4 b n r j)) := by
  unfold val_main_v37 val_main_v36 val_main_v35 val_main_v34
  generalize val_main_v33 (F := Ideal) X KV WQ G = p
  pointwise [val_main_cst_5]

/-- The rows of the attention, the heads side by side again. -/
theorem heads_apply (b : Fin 8) (r : Fin 2048) (k : Fin 1024) (n : Fin 4) (d : Fin 256) (hk : k.val = n.val * 256 + d.val) :
    val_main_v40 (F := Ideal) X KV WQ G (ix3 b r k) = val_main_v38 (F := Ideal) X KV WQ G (ix4 b n d r) := by
  unfold val_main_v40 val_main_v39
  generalize val_main_v38 (F := Ideal) X KV WQ G = s
  have hn : (⟨k.val / 256, by omega⟩ : Fin 4) = n := Fin.ext (by show k.val / 256 = n.val; omega)
  have hd : (⟨k.val % 256, by omega⟩ : Fin 256) = d := Fin.ext (by show k.val % 256 = d.val; omega)
  pointwise []
  rw [hn, hd]

/-- A kernel's score, from a scaled query, is the reference's. -/
theorem score_sum (b : Fin 8) (n : Fin 4) (r : Fin 2048) (j : Fin 256) (q k : Fin 256 → EReal)
    (hq : ∀ d : Fin 256, q d = val_main_v17 (F := Ideal) X WQ G (ix3 b r ⟨n.val * 256 + d.val, by omega⟩) * (((1 : ℝ) / 16 : ℝ) : EReal))
    (hk : ∀ d : Fin 256, k d = KV (ix3 b j ⟨n.val * 256 + d.val, by omega⟩)) :
    ∑ d, q d * k d = val_main_v26 (F := Ideal) X KV WQ G (ix4 b n r j) := by
  rw [score_apply, sum_mul_coe _ _ (by norm_num)]
  refine Finset.sum_congr rfl fun d _ => ?_
  rw [hq, hk, mul_right_comm]

/-- One head of the kernel at one row and column. -/
theorem head_apply (s : FVec Ideal S256x256 .f32) (v : Vec Ideal S1x256x256 .bf16) (i d : Fin 256) (hs : ∀ j, IsReal (s (ix2 i j))) :
    headOf s v (ix2 i d) = ∑ j, v (ix3 0 j d) * Ideal.div (Ideal.exp (s (ix2 i j) - Finset.fold max ⊥ (fun j => s (ix2 i j)) Finset.univ))
      (∑ j, Ideal.exp (s (ix2 i j) - Finset.fold max ⊥ (fun j => s (ix2 i j)) Finset.univ)) := by
  rw [← softmax_row (fun j => s (ix2 i j)) (fun j => v (ix3 0 j d)) hs, ← negInf]
  pointwise [headOf, k0_pay30]

/-- One head of the kernel, from the reference's scores, is the reference's. -/
theorem head_eq (hG : ∀ i, IsReal (G i)) (hW : ∀ i, IsReal (WQ i)) (hK : ∀ i, IsReal (KV i))
    (s : FVec Ideal S256x256 .f32) (v : Vec Ideal S1x256x256 .bf16) (i d : Fin 256) (b : Fin 8) (n : Fin 4) (r : Fin 2048)
    (hs : ∀ j, s (ix2 i j) = val_main_v26 (F := Ideal) X KV WQ G (ix4 b n r j))
    (hv : ∀ j, v (ix3 0 j d) = KV (ix3 b j ⟨1024 + (n.val * 256 + d.val), by omega⟩)) :
    headOf s v (ix2 i d) = val_main_v38 (F := Ideal) X KV WQ G (ix4 b n d r) := by
  rw [head_apply s v i d fun j => hs j ▸ score_isReal X KV WQ G hG hW hK b n r j, weighted_apply]
  refine Finset.sum_congr rfl fun j _ => ?_
  rw [quotient_apply, hv]
  simp only [exp_apply, largest_apply, hs]

/-- A block read through a window of it. -/
theorem ld_entry (kv : Vec Ideal S1x256x2048 .bf16) (o : Nat) (h) (j : Fin 256) (d : Fin 256) (ho : o + d.val < 2048) :
    View.ld kv (Rect.unit (s := S1x256x2048) ![0, 0, o] S1x256x256.size h) (ix3 0 j d) = kv (ix3 0 j ⟨o + d.val, ho⟩) := by
  refine View.ld_unit_apply_of kv _ _ h (ix3 0 j d) _ fun a => ?_
  match a with
  | ⟨0, _⟩ => rfl
  | ⟨1, _⟩ => exact (Nat.zero_add _).symm
  | ⟨2, _⟩ => rfl

/-- The kernel's attended rows are the reference's. -/
theorem attend_eq (hG : ∀ i, IsReal (G i)) (hW : ∀ i, IsReal (WQ i)) (hK : ∀ i, IsReal (KV i))
    (q : FVec Ideal S256x1024 .bf16) (kv : Vec Ideal S1x256x2048 .bf16) (i : Fin 256) (k : Fin 1024) (b : Fin 8) (r : Fin 2048)
    (hq : ∀ k, q (ix2 i k) = val_main_v17 (F := Ideal) X WQ G (ix3 b r k) * (((1 : ℝ) / 16 : ℝ) : EReal))
    (hkv : ∀ j k, kv (ix3 0 j k) = KV (ix3 b j k)) :
    attendOf q kv (ix2 i k) = val_main_v40 (F := Ideal) X KV WQ G (ix3 b r k) := by
  have h0 : ∀ d, headOf (k0_pay11 q (View.ld kv r0_6)) (View.ld kv r0_10) (ix2 i d) = val_main_v38 (F := Ideal) X KV WQ G (ix4 b 0 d r) := by
    intro d
    refine head_eq X KV WQ G hG hW hK _ _ i d b 0 r (fun j => ?_) (fun j => ?_)
    · pointwise [k0_pay11]
      refine score_sum X KV WQ G b 0 r j _ _ (fun d => ?_) (fun d => ?_)
      · exact (hq _).trans (congrArg (fun k => val_main_v17 (F := Ideal) X WQ G (ix3 b r k) * (((1 : ℝ) / 16 : ℝ) : EReal)) (Fin.ext (by first | rfl | (simp; done) | (simp; omega))))
      · exact (hkv _ _).trans (congrArg (fun k => KV (ix3 b j k)) (Fin.ext (by first | rfl | (simp; done) | (simp; omega))))
    · exact (ld_entry kv 1024 _ j d (by omega)).trans ((hkv _ _).trans (congrArg (fun k => KV (ix3 b j k)) (Fin.ext (by first | rfl | (simp; done) | (simp; omega)))))
  have h1 : ∀ d, headOf (k0_pay12 q (View.ld kv r0_7)) (View.ld kv r0_11) (ix2 i d) = val_main_v38 (F := Ideal) X KV WQ G (ix4 b 1 d r) := by
    intro d
    refine head_eq X KV WQ G hG hW hK _ _ i d b 1 r (fun j => ?_) (fun j => ?_)
    · pointwise [k0_pay12]
      refine score_sum X KV WQ G b 1 r j _ _ (fun d => ?_) (fun d => ?_)
      · exact (hq _).trans (congrArg (fun k => val_main_v17 (F := Ideal) X WQ G (ix3 b r k) * (((1 : ℝ) / 16 : ℝ) : EReal)) (Fin.ext (by first | rfl | (simp; done) | (simp; omega))))
      · exact (hkv _ _).trans (congrArg (fun k => KV (ix3 b j k)) (Fin.ext (by first | rfl | (simp; done) | (simp; omega))))
    · exact (ld_entry kv 1280 _ j d (by omega)).trans ((hkv _ _).trans (congrArg (fun k => KV (ix3 b j k)) (Fin.ext (by first | rfl | (simp; done) | (simp; omega)))))
  have h2 : ∀ d, headOf (k0_pay13 q (View.ld kv r0_8)) (View.ld kv r0_12) (ix2 i d) = val_main_v38 (F := Ideal) X KV WQ G (ix4 b 2 d r) := by
    intro d
    refine head_eq X KV WQ G hG hW hK _ _ i d b 2 r (fun j => ?_) (fun j => ?_)
    · pointwise [k0_pay13]
      refine score_sum X KV WQ G b 2 r j _ _ (fun d => ?_) (fun d => ?_)
      · exact (hq _).trans (congrArg (fun k => val_main_v17 (F := Ideal) X WQ G (ix3 b r k) * (((1 : ℝ) / 16 : ℝ) : EReal)) (Fin.ext (by first | rfl | (simp; done) | (simp; omega))))
      · exact (hkv _ _).trans (congrArg (fun k => KV (ix3 b j k)) (Fin.ext (by first | rfl | (simp; done) | (simp; omega))))
    · exact (ld_entry kv 1536 _ j d (by omega)).trans ((hkv _ _).trans (congrArg (fun k => KV (ix3 b j k)) (Fin.ext (by first | rfl | (simp; done) | (simp; omega)))))
  have h3 : ∀ d, headOf (k0_pay14 q (View.ld kv r0_9)) (View.ld kv r0_13) (ix2 i d) = val_main_v38 (F := Ideal) X KV WQ G (ix4 b 3 d r) := by
    intro d
    refine head_eq X KV WQ G hG hW hK _ _ i d b 3 r (fun j => ?_) (fun j => ?_)
    · pointwise [k0_pay14]
      refine score_sum X KV WQ G b 3 r j _ _ (fun d => ?_) (fun d => ?_)
      · exact (hq _).trans (congrArg (fun k => val_main_v17 (F := Ideal) X WQ G (ix3 b r k) * (((1 : ℝ) / 16 : ℝ) : EReal)) (Fin.ext (by first | rfl | (simp; done) | (simp; omega))))
      · exact (hkv _ _).trans (congrArg (fun k => KV (ix3 b j k)) (Fin.ext (by first | rfl | (simp; done) | (simp; omega))))
    · exact (ld_entry kv 1792 _ j d (by omega)).trans ((hkv _ _).trans (congrArg (fun k => KV (ix3 b j k)) (Fin.ext (by first | rfl | (simp; done) | (simp; omega)))))
  pointwise [attendOf]
  by_cases c0 : k.val < 256
  · rw [dif_pos c0, h0, heads_apply X KV WQ G b r k 0 ⟨k.val, by omega⟩ (by simp)]
  rw [dif_neg c0]
  by_cases c1 : k.val - 256 < 256
  · rw [dif_pos c1, h1, heads_apply X KV WQ G b r k 1 ⟨k.val - 256, by omega⟩ (by simp; omega)]
  rw [dif_neg c1]
  by_cases c2 : k.val - 256 - 256 < 256
  · rw [dif_pos c2, h2, heads_apply X KV WQ G b r k 2 ⟨k.val - 256 - 256, by omega⟩ (by simp; omega)]
  rw [dif_neg c2, h3, heads_apply X KV WQ G b r k 3 ⟨k.val - 256 - 256 - 256, by omega⟩ (by simp; omega)]

/-- A chunk's rows after the addition are the reference's, from its attended rows. -/
theorem added_eq (WO : Vec Ideal Cert.ReferenceIdeal.S2x1024x1024 .f32) (a : FVec Ideal S256x1024 .bf16) (w : Vec Ideal S1024x1024 .bf16)
    (x : Vec Ideal S1x256x1024 .f32) (g : Vec Ideal S1x1x1024 .f32) (i : S256x1024.Idx) (b : Fin 8) (r : Fin 2048)
    (ha : ∀ k, a (ix2 (i 0) k) = val_main_v40 (F := Ideal) X KV WQ G (ix3 b r k)) (hw : ∀ k j, w (ix2 k j) = WO (ix3 0 k j))
    (hx : ∀ k, x (ix3 0 (i 0) k) = X (ix3 b r k)) (hg : ∀ k, g (ix3 0 0 k) = G (ix3 0 3 k)) :
    addedOf a w x g i = val_main_v59 (F := Ideal) X KV WQ WO G (ix3 b r (i 1)) := by
  pointwise [addedOf, k0_pay44, val_main_v41, val_main_v42, val_main_v43, val_main_v44, val_main_v45, val_main_v46, val_main_cst_6, val_main_v47, val_main_v48, val_main_cst_7, val_main_v49, val_main_v50, val_main_cst_8, val_main_v51, val_main_v52, val_main_v53, val_main_v54, val_main_v55, val_main_v56, val_main_v57, val_main_v58, val_main_v59]
  simp only [ha, hw, hw _ (i 1), hx (i 1), hg (i 1)]

/-- A chunk's normalised rows are the reference's. -/
theorem normed_eq (WO : Vec Ideal Cert.ReferenceIdeal.S2x1024x1024 .f32) (y : FVec Ideal S256x1024 .f32)
    (g : Vec Ideal S1x1x1024 .f32) (i : S1x256x1024.Idx) (b : Fin 8) (r : Fin 2048)
    (hy : ∀ k, y (ix2 (i 1) k) = val_main_v59 (F := Ideal) X KV WQ WO G (ix3 b r k)) (hg : ∀ k, g (ix3 0 0 k) = G (ix3 0 4 k)) :
    normedOf y g i = val_main_v75 (F := Ideal) X KV WQ WO G (ix3 b r (i 2)) := by
  pointwise [normedOf, k0_pay1, val_main_v60, val_main_v61, val_main_v62, val_main_cst_9, val_main_v63, val_main_v64, val_main_cst_10, val_main_v65, val_main_v66, val_main_cst_11, val_main_v67, val_main_v68, val_main_v69, val_main_v70, val_main_v71, val_main_v72, val_main_v73, val_main_v74, val_main_v75]
  simp only [hy, hy (i 2), hg (i 2)]

end Cert.Xattn

end
-- ==== Proof.Xattn.lean ====
/- The attention over the memory, index by index: the two arrays that the kernel leaves are the reference's. -/
module

public import proofs.«01_k».proof.Proof.XattnRows
public import proofs.«01_k».proof.Proof.Gen.KernelIdeal.Value

@[expose] public section

set_option maxRecDepth 16384
set_option maxHeartbeats 2000000

noncomputable section

namespace Cert.Xattn

open Cert.KernelIdeal Cert.KernelIdeal.Gen Cert.ReferenceIdeal.Read Idealize.ShloMosaic Idealize.ShloMosaic.TcCoe Idealize.SL.Sem
open Cert.RealSums

section Block

variable {F : FTy → Type} [FloatOps F]
variable (x0 : Vec F S1x1024x1024 .f32) (x1 : Vec F S1x256x2048 .bf16) (x2 : Vec F S1024x1024 .bf16) (x3 : Vec F S1024x1024 .bf16)
  (x4 x5 x6 : Vec F S1x1x1024 .f32)

/-- The rows of one chunk after the addition, from the blocks that the grid point stages. -/
def chunkOf (x : Vec F S1x256x1024 .f32) : FVec F S256x1024 .f32 :=
  addedOf (attendOf (queryOf x (View.ld x4 r0_1) (View.ld x2 r0_2)) x1) (View.ld x3 r0_2) x (View.ld x5 r0_1)

theorem out7_eq : out0_7 x0 x1 x2 x3 x4 x5 x6 = View.canon
    [⟨r0_5, rowsOf (chunkOf x1 x2 x3 x4 x5 (View.ld x0 r0_5))⟩, ⟨r0_4, rowsOf (chunkOf x1 x2 x3 x4 x5 (View.ld x0 r0_4))⟩,
      ⟨r0_3, rowsOf (chunkOf x1 x2 x3 x4 x5 (View.ld x0 r0_3))⟩, ⟨r0_0, rowsOf (chunkOf x1 x2 x3 x4 x5 (View.ld x0 r0_0))⟩] := by
  unfold out0_7
  rw [attend0, attend1, attend2, attend3, rows0, rows1, rows2, rows3]
  rfl

theorem out8_eq : out0_8 x0 x1 x2 x3 x4 x5 x6 = View.canon
    [⟨r0_5, normedOf (chunkOf x1 x2 x3 x4 x5 (View.ld x0 r0_5)) (View.ld x6 r0_1)⟩,
      ⟨r0_4, normedOf (chunkOf x1 x2 x3 x4 x5 (View.ld x0 r0_4)) (View.ld x6 r0_1)⟩,
      ⟨r0_3, normedOf (chunkOf x1 x2 x3 x4 x5 (View.ld x0 r0_3)) (View.ld x6 r0_1)⟩,
      ⟨r0_0, normedOf (chunkOf x1 x2 x3 x4 x5 (View.ld x0 r0_0)) (View.ld x6 r0_1)⟩] := by
  unfold out0_8
  rw [attend0, attend1, attend2, attend3, normed0, normed1, normed2, normed3]
  rfl

end Block

theorem ld_gain (g : Vec Ideal S1x1x1024 .f32) (k : Fin 1024) : View.ld g r0_1 (ix3 0 0 k) = g (ix3 0 0 k) :=
  View.ld_unit_apply_of g _ _ _ (ix3 0 0 k) _ fun a => by
    match a with
    | ⟨0, _⟩ => rfl
    | ⟨1, _⟩ => rfl
    | ⟨2, _⟩ => exact (Nat.zero_add _).symm

theorem ld_weight (w : Vec Ideal S1024x1024 .bf16) (k j : Fin 1024) : View.ld w r0_2 (ix2 k j) = w (ix2 k j) :=
  View.ld_unit_apply_of w _ _ _ (ix2 k j) _ fun a => by
    match a with
    | ⟨0, _⟩ => exact (Nat.zero_add _).symm
    | ⟨1, _⟩ => exact (Nat.zero_add _).symm

/-- The rows of a chunk that starts at a row of the block. -/
theorem ld_rows (x : Vec Ideal S1x1024x1024 .f32) (o : Nat) (h) (i : Fin 256) (k : Fin 1024) (ho : o + i.val < 1024) :
    View.ld x (Rect.unit (s := S1x1024x1024) ![0, o, 0] S1x256x1024.size h) (ix3 0 i k) = x (ix3 0 ⟨o + i.val, ho⟩ k) :=
  View.ld_unit_apply_of x _ _ h (ix3 0 i k) _ fun a => by
    match a with
    | ⟨0, _⟩ => rfl
    | ⟨1, _⟩ => rfl
    | ⟨2, _⟩ => exact (Nat.zero_add _).symm

variable (X : Vec Ideal Cert.ReferenceIdeal.S8x2048x1024 .f32) (KV : Vec Ideal Cert.ReferenceIdeal.S8x256x2048 .bf16)
  (WQ WO : Vec Ideal Cert.ReferenceIdeal.S2x1024x1024 .f32) (G : Vec Ideal Cert.ReferenceIdeal.S2x6x1024 .f32)

/-- A chunk's rows are the reference's, when the blocks are the reference's arrays. -/
theorem chunk_eq (hG : ∀ i, IsReal (G i)) (hW : ∀ i, IsReal (WQ i)) (hK : ∀ i, IsReal (KV i))
    (x1 : Vec Ideal S1x256x2048 .bf16) (x2 x3 : Vec Ideal S1024x1024 .bf16) (x4 x5 : Vec Ideal S1x1x1024 .f32) (x : Vec Ideal S1x256x1024 .f32)
    (b : Fin 8) (h1 : ∀ j k, x1 (ix3 0 j k) = KV (ix3 b j k)) (h2 : ∀ k j, x2 (ix2 k j) = WQ (ix3 0 k j))
    (h3 : ∀ k j, x3 (ix2 k j) = WO (ix3 0 k j)) (h4 : ∀ k, x4 (ix3 0 0 k) = G (ix3 0 2 k)) (h5 : ∀ k, x5 (ix3 0 0 k) = G (ix3 0 3 k))
    (i : Fin 256) (k : Fin 1024) (r : Fin 2048) (hx : ∀ k, x (ix3 0 i k) = X (ix3 b r k)) :
    chunkOf x1 x2 x3 x4 x5 x (ix2 i k) = val_main_v59 (F := Ideal) X KV WQ WO G (ix3 b r k) := by
  refine added_eq X KV WQ G WO _ _ _ _ (ix2 i k) b r (fun k => ?_) (fun k j => (ld_weight _ _ _).trans (h3 k j)) hx
    (fun k => (ld_gain _ _).trans (h5 k))
  refine attend_eq X KV WQ G hG hW hK _ _ i k b r (fun k => ?_) h1
  exact query_apply X WQ G _ _ _ (ix2 i k) b r hx (fun k => (ld_gain _ _).trans (h4 k)) (fun k j => (ld_weight _ _ _).trans (h2 k j))

theorem rowsOf_apply (y : FVec Ideal S256x1024 .f32) (i : S1x256x1024.Idx) : rowsOf y i = y (ix2 (i 1) (i 2)) := by
  pointwise [rowsOf]

variable (m : (ℓ : Loc nD τ sig) → Buf (Elt Ideal) ℓ)

/-- Which block each window stages at a grid point. -/
theorem idx : ∀ t : Fin cfg0.N, (win0_0.index t = ![(grid0.coords t 0).val, (grid0.coords t 1).val, 0] ∧ win0_1.index t = ![(grid0.coords t 0).val, 0, 0]
    ∧ win0_2.index t = ![0, 0] ∧ win0_3.index t = ![0, 0]) ∧ (win0_4.index t = ![2, 0, 0] ∧ win0_5.index t = ![3, 0, 0] ∧ win0_6.index t = ![4, 0, 0])
    ∧ win0_7.index t = ![(grid0.coords t 0).val, (grid0.coords t 1).val, 0] ∧ win0_8.index t = ![(grid0.coords t 0).val, (grid0.coords t 1).val, 0]
    ∧ (grid0.coords t 0).val < 8 ∧ (grid0.coords t 1).val < 2 :=
  (by decide +kernel : ∀ t : Fin grid0.N, (win0_0.index t = ![(grid0.coords t 0).val, (grid0.coords t 1).val, 0] ∧ win0_1.index t = ![(grid0.coords t 0).val, 0, 0]
    ∧ win0_2.index t = ![0, 0] ∧ win0_3.index t = ![0, 0]) ∧ (win0_4.index t = ![2, 0, 0] ∧ win0_5.index t = ![3, 0, 0] ∧ win0_6.index t = ![4, 0, 0])
    ∧ win0_7.index t = ![(grid0.coords t 0).val, (grid0.coords t 1).val, 0] ∧ win0_8.index t = ![(grid0.coords t 0).val, (grid0.coords t 1).val, 0]
    ∧ (grid0.coords t 0).val < 8 ∧ (grid0.coords t 1).val < 2)

/-- The staged blocks, entry by entry. -/
theorem staged (c : Dev nD) (t : Fin cfg0.N) (b : Fin 8) (hb : b.val = (grid0.coords t 0).val) :
    (∀ (i k : Fin 1024) (r : Fin 2048), r.val = 1024 * (grid0.coords t 1).val + i.val →
      iblk m c 0 t (ix3 0 i k) = m ((c : Thread nD τ).loc main_arg0) (ix3 b r k))
    ∧ (∀ (j : Fin 256) (k : Fin 2048), iblk m c 1 t (ix3 0 j k) = m ((c : Thread nD τ).loc main_arg1) (ix3 b j k))
    ∧ (∀ k j : Fin 1024, iblk m c 2 t (ix2 k j) = m ((c : Thread nD τ).loc main_arg2) (ix3 0 k j))
    ∧ (∀ k j : Fin 1024, iblk m c 3 t (ix2 k j) = m ((c : Thread nD τ).loc main_arg3) (ix3 0 k j))
    ∧ (∀ k : Fin 1024, iblk m c 4 t (ix3 0 0 k) = m ((c : Thread nD τ).loc main_arg4) (ix3 0 2 k))
    ∧ (∀ k : Fin 1024, iblk m c 5 t (ix3 0 0 k) = m ((c : Thread nD τ).loc main_arg4) (ix3 0 3 k))
    ∧ (∀ k : Fin 1024, iblk m c 6 t (ix3 0 0 k) = m ((c : Thread nD τ).loc main_arg4) (ix3 0 4 k)) := by
  obtain ⟨⟨e0, e1, e2, e3⟩, ⟨e4, e5, e6⟩, e7, e8, ht, ht'⟩ := idx t
  refine ⟨fun i k r hr => ?_, fun j k => ?_, fun k j => ?_, fun k j => ?_, fun k => ?_, fun k => ?_, fun k => ?_⟩
  · blk_point [iblk, V, e0, hb, hr]
  · blk_point [iblk, V, e1, hb]
  · blk_point [iblk, V, e2]
  · blk_point [iblk, V, e3]
  · blk_point [iblk, V, e4]
  · blk_point [iblk, V, e5]
  · blk_point [iblk, V, e6]

/-- Where an entry of the block lies in the array. -/
theorem place7 (t : Fin cfg0.N) (z : ((cfg0.win 7).xblock (cfg0.grid.coords t)).Idx) (b : Fin 8) (r : Fin 2048) (k : Fin 1024)
    (hb : b.val = (grid0.coords t 0).val) (hr : r.val = (grid0.coords t 1).val * 1024 + (z 1).val) (hk : k.val = (z 2).val) :
    (win0_7.blk t).view.emb z = ix3 b r k := by
  obtain ⟨-, -, e7, e8, -, -⟩ := idx t
  funext a
  match a with
  | ⟨0, _⟩ => exact Fin.ext (by blk_simp [e7]; exact hb.symm)
  | ⟨1, _⟩ => exact Fin.ext (by blk_simp [e7]; exact hr.symm)
  | ⟨2, _⟩ => exact Fin.ext (by blk_simp [e7]; exact hk.symm)

/-- Where an entry of the block lies in the array. -/
theorem place8 (t : Fin cfg0.N) (z : ((cfg0.win 8).xblock (cfg0.grid.coords t)).Idx) (b : Fin 8) (r : Fin 2048) (k : Fin 1024)
    (hb : b.val = (grid0.coords t 0).val) (hr : r.val = (grid0.coords t 1).val * 1024 + (z 1).val) (hk : k.val = (z 2).val) :
    (win0_8.blk t).view.emb z = ix3 b r k := by
  obtain ⟨-, -, e7, e8, -, -⟩ := idx t
  funext a
  match a with
  | ⟨0, _⟩ => exact Fin.ext (by blk_simp [e8]; exact hb.symm)
  | ⟨1, _⟩ => exact Fin.ext (by blk_simp [e8]; exact hr.symm)
  | ⟨2, _⟩ => exact Fin.ext (by blk_simp [e8]; exact hk.symm)

/-- What the kernel leaves as its first result: the rows after the attention is added. -/
theorem value_rows (c : Dev nD) (hK : ∀ i, IsReal (m ((c : Thread nD τ).loc main_arg1) i)) (hW : ∀ i, IsReal (m ((c : Thread nD τ).loc main_arg2) i))
    (hG : ∀ i, IsReal (m ((c : Thread nD τ).loc main_arg4) i)) :
    (dats m 0 c).arrAt 7 cfg0.N = val_main_v59 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 7 _ (by decide +kernel) fun t hf z => ?_
  obtain ⟨-, -, e7, -, ht, ht'⟩ := idx t
  obtain ⟨s0, s1, s2, s3, s4, s5, -⟩ := staged m c t ⟨(grid0.coords t 0).val, ht⟩ rfl
  blk_simp
  rw [after0_7, out7_eq]
  canon_tiles y h
  · have hr : 1024 * (grid0.coords t 1).val + (768 + (y 1).val) < 2048 := by omega
    refine Eq.trans ?_ (congrArg _ (place7 t z ⟨_, ht⟩ ⟨_, hr⟩ (y 2) rfl (by simp only; omega) (by omega)).symm)
    exact (rowsOf_apply _ y).trans (chunk_eq _ _ _ _ _ hG hW hK _ _ _ _ _ _ ⟨_, ht⟩ s1 s2 s3 s4 s5 (y 1) (y 2) ⟨_, hr⟩ fun k =>
      (ld_rows _ 768 _ (y 1) k (by omega)).trans (s0 _ k _ rfl))
  · have hr : 1024 * (grid0.coords t 1).val + (512 + (y 1).val) < 2048 := by omega
    refine Eq.trans ?_ (congrArg _ (place7 t z ⟨_, ht⟩ ⟨_, hr⟩ (y 2) rfl (by simp only; omega) (by omega)).symm)
    exact (rowsOf_apply _ y).trans (chunk_eq _ _ _ _ _ hG hW hK _ _ _ _ _ _ ⟨_, ht⟩ s1 s2 s3 s4 s5 (y 1) (y 2) ⟨_, hr⟩ fun k =>
      (ld_rows _ 512 _ (y 1) k (by omega)).trans (s0 _ k _ rfl))
  · have hr : 1024 * (grid0.coords t 1).val + (256 + (y 1).val) < 2048 := by omega
    refine Eq.trans ?_ (congrArg _ (place7 t z ⟨_, ht⟩ ⟨_, hr⟩ (y 2) rfl (by simp only; omega) (by omega)).symm)
    exact (rowsOf_apply _ y).trans (chunk_eq _ _ _ _ _ hG hW hK _ _ _ _ _ _ ⟨_, ht⟩ s1 s2 s3 s4 s5 (y 1) (y 2) ⟨_, hr⟩ fun k =>
      (ld_rows _ 256 _ (y 1) k (by omega)).trans (s0 _ k _ rfl))
  · have hr : 1024 * (grid0.coords t 1).val + (y 1).val < 2048 := by omega
    refine Eq.trans ?_ (congrArg _ (place7 t z ⟨_, ht⟩ ⟨_, hr⟩ (y 2) rfl (by simp only; omega) (by omega)).symm)
    exact (rowsOf_apply _ y).trans (chunk_eq _ _ _ _ _ hG hW hK _ _ _ _ _ _ ⟨_, ht⟩ s1 s2 s3 s4 s5 (y 1) (y 2) ⟨_, hr⟩ fun k =>
      (ld_rows _ 0 _ (y 1) k (by omega)).trans (s0 _ k _ (by simp only [Nat.zero_add])))

/-- What the kernel leaves as its second result: those rows normalised. -/
theorem value_normed (c : Dev nD) (hK : ∀ i, IsReal (m ((c : Thread nD τ).loc main_arg1) i)) (hW : ∀ i, IsReal (m ((c : Thread nD τ).loc main_arg2) i))
    (hG : ∀ i, IsReal (m ((c : Thread nD τ).loc main_arg4) i)) :
    (dats m 0 c).arrAt 8 cfg0.N = val_main_v75 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 8 _ (by decide +kernel) fun t hf z => ?_
  obtain ⟨-, -, -, e8, ht, ht'⟩ := idx t
  obtain ⟨s0, s1, s2, s3, s4, s5, s6⟩ := staged m c t ⟨(grid0.coords t 0).val, ht⟩ rfl
  blk_simp
  rw [after0_8, out8_eq]
  canon_tiles y h
  · have hr : 1024 * (grid0.coords t 1).val + (768 + (y 1).val) < 2048 := by omega
    refine Eq.trans ?_ (congrArg _ (place8 t z ⟨_, ht⟩ ⟨_, hr⟩ (y 2) rfl (by simp only; omega) (by omega)).symm)
    exact normed_eq _ _ _ _ _ _ _ y ⟨_, ht⟩ ⟨_, hr⟩ (fun k => chunk_eq _ _ _ _ _ hG hW hK _ _ _ _ _ _ ⟨_, ht⟩ s1 s2 s3 s4 s5 (y 1) k ⟨_, hr⟩ fun k =>
      (ld_rows _ 768 _ (y 1) k (by omega)).trans (s0 _ k _ rfl)) (fun k => (ld_gain _ _).trans (s6 k))
  · have hr : 1024 * (grid0.coords t 1).val + (512 + (y 1).val) < 2048 := by omega
    refine Eq.trans ?_ (congrArg _ (place8 t z ⟨_, ht⟩ ⟨_, hr⟩ (y 2) rfl (by simp only; omega) (by omega)).symm)
    exact normed_eq _ _ _ _ _ _ _ y ⟨_, ht⟩ ⟨_, hr⟩ (fun k => chunk_eq _ _ _ _ _ hG hW hK _ _ _ _ _ _ ⟨_, ht⟩ s1 s2 s3 s4 s5 (y 1) k ⟨_, hr⟩ fun k =>
      (ld_rows _ 512 _ (y 1) k (by omega)).trans (s0 _ k _ rfl)) (fun k => (ld_gain _ _).trans (s6 k))
  · have hr : 1024 * (grid0.coords t 1).val + (256 + (y 1).val) < 2048 := by omega
    refine Eq.trans ?_ (congrArg _ (place8 t z ⟨_, ht⟩ ⟨_, hr⟩ (y 2) rfl (by simp only; omega) (by omega)).symm)
    exact normed_eq _ _ _ _ _ _ _ y ⟨_, ht⟩ ⟨_, hr⟩ (fun k => chunk_eq _ _ _ _ _ hG hW hK _ _ _ _ _ _ ⟨_, ht⟩ s1 s2 s3 s4 s5 (y 1) k ⟨_, hr⟩ fun k =>
      (ld_rows _ 256 _ (y 1) k (by omega)).trans (s0 _ k _ rfl)) (fun k => (ld_gain _ _).trans (s6 k))
  · have hr : 1024 * (grid0.coords t 1).val + (y 1).val < 2048 := by omega
    refine Eq.trans ?_ (congrArg _ (place8 t z ⟨_, ht⟩ ⟨_, hr⟩ (y 2) rfl (by simp only; omega) (by omega)).symm)
    exact normed_eq _ _ _ _ _ _ _ y ⟨_, ht⟩ ⟨_, hr⟩ (fun k => chunk_eq _ _ _ _ _ hG hW hK _ _ _ _ _ _ ⟨_, ht⟩ s1 s2 s3 s4 s5 (y 1) k ⟨_, hr⟩ fun k =>
      (ld_rows _ 0 _ (y 1) k (by omega)).trans (s0 _ k _ (by simp only [Nat.zero_add]))) (fun k => (ld_gain _ _).trans (s6 k))

end Cert.Xattn

end
-- ==== Proof.XattnClaims.lean ====
/- The claims about the attention over the memory: the frames, and that kernel and reference leave the same arrays
   when the memory's keys and values, the query weight and the gains are finite. -/
module

public import proofs.«01_k».proof.Defs
public import proofs.«01_k».proof.Proof.Finite
public import proofs.«01_k».proof.Proof.Xattn
public import proofs.«01_k».proof.Proof.Gen.Kernel.Frame
public import proofs.«01_k».proof.Proof.Gen.ReferenceIdeal.Run
public import Idealize.ShloMosaic.Lib.Quiescent

@[expose] public section

set_option maxRecDepth 16384

noncomputable section

namespace Cert.Xattn

open Cert.KernelIdeal Cert.KernelIdeal.Gen Cert.ReferenceIdeal.Read Idealize.ShloMosaic Idealize.ShloMosaic.TcCoe Idealize.SL.Sem
open Cert.RealSums

theorem frameReference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Both programs leave the two arrays that the reference's operations compute from the arguments. -/
theorem algebraic : Cert.algebraic_KernelIdeal_ReferenceIdeal_pre_finite := by
  intro m g m' g' hp hagree
  refine ⟨fun c => val_main_v59 (F := Ideal) (m ((c : Thread nD τ).loc main_arg0)) (m ((c : Thread nD τ).loc main_arg1)) (m ((c : Thread nD τ).loc main_arg2))
        (m ((c : Thread nD τ).loc main_arg3)) (m ((c : Thread nD τ).loc main_arg4)),
      fun c => val_main_v75 (F := Ideal) (m ((c : Thread nD τ).loc main_arg0)) (m ((c : Thread nD τ).loc main_arg1)) (m ((c : Thread nD τ).loc main_arg2))
        (m ((c : Thread nD τ).loc main_arg3)) (m ((c : Thread nD τ).loc main_arg4)), ?_, ?_⟩
  · refine (θ_run Cert.KernelIdeal.defs _ _).mono (fun r h c => ?_) (Cert.KernelIdeal.Value.run_blocks (F := Ideal) m g)
    obtain ⟨hk, hw, hg⟩ := finite_arrays _ _ _ _ _ (hp c)
    exact ⟨(h c).1.trans (value_rows m c hk hw hg), (h c).2.1.trans (value_normed m c hk hw hg), (h c).2.2⟩
  · refine (θ_run Cert.ReferenceIdeal.defs _ _).mono (fun r h c => ⟨(h c).1.trans ?_, (h c).2.1.trans ?_, (h c).2.2⟩)
      (Cert.ReferenceIdeal.Value.run (F := Ideal) m' g')
    · obtain ⟨e0, e1, e2, e3, e4⟩ := hagree c
      rw [val_main_v59_eq, e0, e1, e2, e3, e4]
    · obtain ⟨e0, e1, e2, e3, e4⟩ := hagree c
      rw [val_main_v75_eq, e0, e1, e2, e3, e4]

end Cert.Xattn

end
-- ==== Proof.FfnChunks.lean ====
/- The FFN's stores, each as the steps that it is made of: the rows' projection, the convolution, the activation, and the
   projection back. -/
module

public import proofs.«01_k».proof.Proof.Gen.Kernel2Ideal.Value

@[expose] public section

set_option maxRecDepth 16384
set_option maxHeartbeats 2000000

noncomputable section

namespace Cert.Ffn

open Cert.Kernel2Ideal Cert.Kernel2Ideal.Gen Idealize.ShloMosaic

variable {F : FTy → Type} [FloatOps F] [Named F]

/-- The gelu, from its tanh. -/
def gelu {s : Shape} (g : FVec F s .f32) : FVec F s .f32 :=
  addf (mulf (broadcast s (Scalar.ofBits .f32 0x3F000000#32)) g)
    (mulf (mulf (broadcast s (Scalar.ofBits .f32 0x3F000000#32)) g)
      (tanh (mulf g (addf (broadcast s (Scalar.ofBits .f32 0x3F4C422A#32))
        (mulf (broadcast s (Named.named κ "gelu_cubic" 0x3D122279#32)) (mulf g g))))))

/-- The taps of one half of the columns. -/
def taps0 (x2 : Vec F S1x3x5632 .f32) : Vec F S3x2816 .f32 := shapeCast S3x2816 (View.ld x2 r0_4) squeezes_S1x3x2816_S3x2816.numel_eq
def taps1 (x2 : Vec F S1x3x5632 .f32) : Vec F S3x2816 .f32 := shapeCast S3x2816 (View.ld x2 r0_8) squeezes_S1x3x2816_S3x2816.numel_eq

/-- The width-3 convolution down the rows, of an end chunk. -/
def convEnd (u : FVec F S528x2816 .f32) (k : Vec F S3x2816 .f32) : FVec F S528x2816 .f32 :=
  addf (addf (mulf (k0_pay38 u) (broadcastTo S528x2816 (View.ld k r0_5) broadcasts_S1x2816_S528x2816))
      (mulf u (broadcastTo S528x2816 (View.ld k r0_6) broadcasts_S1x2816_S528x2816)))
    (mulf (k0_pay39 u) (broadcastTo S528x2816 (View.ld k r0_7) broadcasts_S1x2816_S528x2816))

/-- The width-3 convolution down the rows, of a chunk between. -/
def convMid (u : FVec F S544x2816 .f32) (k : Vec F S3x2816 .f32) : FVec F S544x2816 .f32 :=
  addf (addf (mulf (k0_pay20 u) (broadcastTo S544x2816 (View.ld k r0_5) broadcasts_S1x2816_S544x2816))
      (mulf u (broadcastTo S544x2816 (View.ld k r0_6) broadcasts_S1x2816_S544x2816)))
    (mulf (k0_pay21 u) (broadcastTo S544x2816 (View.ld k r0_7) broadcasts_S1x2816_S544x2816))

/-- The rows of a chunk that are stored, projected back. -/
def down (a : FVec F S512x2816 .f32) (w : Vec F S2816x1024 .bf16) : FVec F S1x512x1024 .bf16 :=
  shapeCast S1x512x1024 (truncf .bf16 (matmul dot_S512x2816_S2816x1024_S512x1024_1_0_0_1_n_n none (truncf .bf16 a bitsLt_bf16_f32)
    (shapeCast S2816x1024 w shapeCasts_S2816x1024_S2816x1024) (constant S512x1024 .f32 0x00000000#32)) bitsLt_bf16_f32) shapeCasts_S512x1024_S1x512x1024

/-- The activations of an end chunk. -/
def actEnd (x : Vec F S1x528x1024 .bf16) (x1 : Vec F S1024x5632 .bf16) (x2 : Vec F S1x3x5632 .f32) : FVec F S528x2816 .f32 :=
  mulf (gelu (convEnd (k0_pay3 x (View.ld x1 r0_1)) (taps0 x2))) (convEnd (k0_pay3 x (View.ld x1 r0_2)) (taps1 x2))

/-- The activations of a chunk between. -/
def actMid (x : Vec F S1x544x1024 .bf16) (x1 : Vec F S1024x5632 .bf16) (x2 : Vec F S1x3x5632 .f32) : FVec F S544x2816 .f32 :=
  mulf (gelu (convMid (k0_pay6 x (View.ld x1 r0_1)) (taps0 x2))) (convMid (k0_pay6 x (View.ld x1 r0_2)) (taps1 x2))

theorem out_eq (x0 : Vec F S1x2048x1024 .bf16) (x1 : Vec F S1024x5632 .bf16) (x2 : Vec F S1x3x5632 .f32) (x3 : Vec F S2816x1024 .bf16) :
    out0_4 x0 x1 x2 x3 = View.canon
      [⟨r0_15, down (extractStridedSlice S512x2816 ![16, 0] (actEnd (View.ld x0 r0_13) x1 x2) slices_S528x2816_o16_0_S512x2816) (View.ld x3 r0_9)⟩,
        ⟨r0_14, down (extractStridedSlice S512x2816 ![16, 0] (actMid (View.ld x0 r0_11) x1 x2) slices_S544x2816_o16_0_S512x2816) (View.ld x3 r0_9)⟩,
        ⟨r0_12, down (extractStridedSlice S512x2816 ![16, 0] (actMid (View.ld x0 r0_3) x1 x2) slices_S544x2816_o16_0_S512x2816) (View.ld x3 r0_9)⟩,
        ⟨r0_10, down (extractStridedSlice S512x2816 ![0, 0] (actEnd (View.ld x0 r0_0) x1 x2) slices_S528x2816_o0_0_S512x2816) (View.ld x3 r0_9)⟩] := rfl

end Cert.Ffn

end
-- ==== Proof.FfnGelu.lean ====
/- The kernel's gelu and the reference's, on a real number. -/
module

public import proofs.«01_k».proof.Proof.FfnChunks
public import proofs.«01_k».proof.Proof.RealSums

@[expose] public section

noncomputable section

namespace Cert.Ffn

open Cert.Kernel2Ideal Cert.Kernel2Ideal.Gen Idealize.ShloMosaic Cert.RealSums

/-- The constants, as the reals that they are. -/
theorem half_val : Ideal.ofBits .f32 0x3F000000#32 = ((1 / 2 : ℝ) : EReal) := by
  simp [Ideal.ofBits, Ideal.ieee, -EReal.coe_mul]; norm_num
theorem one_val : Ideal.ofBits .f32 0x3F800000#32 = ((1 : ℝ) : EReal) := by
  simp [Ideal.ofBits, Ideal.ieee, -EReal.coe_mul]; norm_num
theorem root_val : Ideal.ofBits .f32 0x3F4C422A#32 = ((13386282 / 16777216 : ℝ) : EReal) := by
  simp [Ideal.ofBits, Ideal.ieee, -EReal.coe_mul]; norm_num
theorem cubic_val : Ideal.ofBits .f32 0x3D372713#32 = ((12003091 / 268435456 : ℝ) : EReal) := by
  simp [Ideal.ofBits, Ideal.ieee, -EReal.coe_mul]; norm_num
theorem named_val : Named.named (F := Ideal) κ "gelu_cubic" (φ := .f32) 0x3D122279#32 = ((80338380498831 / 2251799813685248 : ℝ) : EReal) :=
  IdealRules.named_const.ideal_named_scalar _ _ _ _ rfl

/-- The kernel's factored form of the gelu is the reference's, at a real. -/
theorem gelu_real {x : EReal} (hx : IsReal x) :
    Ideal.ofBits .f32 0x3F000000#32 * x + Ideal.ofBits .f32 0x3F000000#32 * x
        * Ideal.tanh (x * (Ideal.ofBits .f32 0x3F4C422A#32 + Named.named (F := Ideal) κ "gelu_cubic" (φ := .f32) 0x3D122279#32 * (x * x)))
      = x * (Ideal.ofBits .f32 0x3F000000#32 * (Ideal.ofBits .f32 0x3F800000#32
        + Ideal.tanh (Ideal.ofBits .f32 0x3F4C422A#32 * (x + Ideal.ofBits .f32 0x3D372713#32 * (x * x * x))))) := by
  obtain ⟨r, rfl⟩ := hx
  rw [half_val, one_val, root_val, cubic_val, named_val]
  simp only [← EReal.coe_mul, ← EReal.coe_add, Ideal.tanh_coe]
  rw [show r * (13386282 / 16777216 + 80338380498831 / 2251799813685248 * (r * r)) = 13386282 / 16777216 * (r + 12003091 / 268435456 * (r * r * r)) by ring]
  congr 1
  ring

end Cert.Ffn

end
-- ==== Proof.FfnRows.lean ====
/- The rows of a chunk, read index by index: the rows before and after, the convolution, the activation. -/
module

public import proofs.«01_k».proof.Proof.FfnGelu
public import proofs.«01_k».proof.Proof.Gen.Reference2Ideal.Read
public import Idealize.ShloMosaic.Lib.Pipeline.ValueKit

@[expose] public section

set_option maxRecDepth 16384
set_option maxHeartbeats 2000000

noncomputable section

namespace Cert.Ffn

open Cert.Kernel2Ideal Cert.Kernel2Ideal.Gen Cert.Reference2Ideal.Read Idealize.ShloMosaic Idealize.ShloMosaic.TcCoe Idealize.SL.Sem
open Cert.RealSums

/-- The row before, with a row of zeros before the first. -/
theorem beforeEnd (u : FVec Ideal S528x2816 .f32) (p : Fin 528) (q : Fin 2816) :
    k0_pay38 u (ix2 p q) = if h : 0 < p.val then u (ix2 ⟨p.val - 1, by omega⟩ q) else 0 := by
  pointwise [k0_pay37, k0_pay38]
  by_cases h : 0 < p.val
  · simp (disch := omega) only [dif_pos, dif_neg]
    exact congrArg (fun j => u (ix2 j q)) (Fin.ext (by simp only; omega))
  · simp (disch := omega) only [dif_pos, dif_neg]

/-- The row after, with a row of zeros after the last. -/
theorem afterEnd (u : FVec Ideal S528x2816 .f32) (p : Fin 528) (q : Fin 2816) :
    k0_pay39 u (ix2 p q) = if h : p.val < 527 then u (ix2 ⟨p.val + 1, by omega⟩ q) else 0 := by
  pointwise [k0_pay37, k0_pay39]
  by_cases h : p.val < 527
  · simp (disch := omega) only [dif_pos, dif_neg]
    exact congrArg (fun j => u (ix2 j q)) (Fin.ext (by simp only; omega))
  · simp (disch := omega) only [dif_pos, dif_neg]

/-- The row before, in a chunk between. -/
theorem beforeMid (u : FVec Ideal S544x2816 .f32) (p : Fin 544) (q : Fin 2816) :
    k0_pay20 u (ix2 p q) = if h : 0 < p.val then u (ix2 ⟨p.val - 1, by omega⟩ q) else 0 := by
  pointwise [k0_pay19, k0_pay20]
  by_cases h : 0 < p.val
  · simp (disch := omega) only [dif_pos, dif_neg]
    exact congrArg (fun j => u (ix2 j q)) (Fin.ext (by simp only; omega))
  · simp (disch := omega) only [dif_pos, dif_neg]

/-- The row after, in a chunk between. -/
theorem afterMid (u : FVec Ideal S544x2816 .f32) (p : Fin 544) (q : Fin 2816) :
    k0_pay21 u (ix2 p q) = if h : p.val < 543 then u (ix2 ⟨p.val + 1, by omega⟩ q) else 0 := by
  pointwise [k0_pay19, k0_pay21]
  by_cases h : p.val < 543
  · simp (disch := omega) only [dif_pos, dif_neg]
    exact congrArg (fun j => u (ix2 j q)) (Fin.ext (by simp only; omega))
  · simp (disch := omega) only [dif_pos, dif_neg]

/-- The taps' rows. -/
theorem ld_tap0 (k : Vec Ideal S3x2816 .f32) (q : Fin 2816) : View.ld k r0_5 (ix2 0 q) = k (ix2 0 q) :=
  View.ld_unit_apply_of k _ _ _ (ix2 0 q) _ fun a => by
    match a with
    | ⟨0, _⟩ => rfl
    | ⟨1, _⟩ => exact (Nat.zero_add _).symm
theorem ld_tap1 (k : Vec Ideal S3x2816 .f32) (q : Fin 2816) : View.ld k r0_6 (ix2 0 q) = k (ix2 1 q) :=
  View.ld_unit_apply_of k _ _ _ (ix2 0 q) _ fun a => by
    match a with
    | ⟨0, _⟩ => rfl
    | ⟨1, _⟩ => exact (Nat.zero_add _).symm
theorem ld_tap2 (k : Vec Ideal S3x2816 .f32) (q : Fin 2816) : View.ld k r0_7 (ix2 0 q) = k (ix2 2 q) :=
  View.ld_unit_apply_of k _ _ _ (ix2 0 q) _ fun a => by
    match a with
    | ⟨0, _⟩ => rfl
    | ⟨1, _⟩ => exact (Nat.zero_add _).symm

theorem convEnd_apply (u : FVec Ideal S528x2816 .f32) (k : Vec Ideal S3x2816 .f32) (p : Fin 528) (q : Fin 2816) :
    convEnd u k (ix2 p q) = (k0_pay38 u (ix2 p q) * k (ix2 0 q) + u (ix2 p q) * k (ix2 1 q) + k0_pay39 u (ix2 p q) * k (ix2 2 q) : EReal) := by
  rw [← ld_tap0 k q, ← ld_tap1 k q, ← ld_tap2 k q]
  pointwise [convEnd]

theorem convMid_apply (u : FVec Ideal S544x2816 .f32) (k : Vec Ideal S3x2816 .f32) (p : Fin 544) (q : Fin 2816) :
    convMid u k (ix2 p q) = (k0_pay20 u (ix2 p q) * k (ix2 0 q) + u (ix2 p q) * k (ix2 1 q) + k0_pay21 u (ix2 p q) * k (ix2 2 q) : EReal) := by
  rw [← ld_tap0 k q, ← ld_tap1 k q, ← ld_tap2 k q]
  pointwise [convMid]

variable (X : Vec Ideal Cert.Reference2Ideal.S8x2048x1024 .bf16) (U : Vec Ideal Cert.Reference2Ideal.S2x1024x5632 .f32)
  (K : Vec Ideal Cert.Reference2Ideal.S2x3x5632 .f32) (W : Vec Ideal Cert.Reference2Ideal.S2x2816x1024 .f32)

/-- The reference's padding is the real zero. -/
theorem pad_zero : FloatOps.sitofp (F := Ideal) FTy.f32 (0#32) = (0 : EReal) := by
  change (((0#32).toInt : ℝ) : EReal) = 0
  simp

/-- The reference's convolution at a row. -/
theorem conv_apply (b : Fin 8) (r : Fin 2048) (c : Fin 5632) :
    val_main_v28 (F := Ideal) X U K (ix3 b r c)
      = ((if h : 0 < r.val then val_main_v7 (F := Ideal) X U (ix3 b ⟨r.val - 1, by omega⟩ c) else 0) * K (ix3 0 0 c)
        + val_main_v7 (F := Ideal) X U (ix3 b r c) * K (ix3 0 1 c)
        + (if h : r.val < 2047 then val_main_v7 (F := Ideal) X U (ix3 b ⟨r.val + 1, by omega⟩ c) else 0) * K (ix3 0 2 c) : EReal) := by
  pointwise [val_main_c, val_main_call0_v0, val_main_v3, val_main_v4, val_main_v8, val_main_v9, val_main_v10, val_main_v11, val_main_v12, val_main_v13, val_main_v14, val_main_v15, val_main_v16,
    val_main_v17, val_main_v18, val_main_v19, val_main_v20, val_main_v21, val_main_v22, val_main_v23, val_main_v24, val_main_v25, val_main_v26,
    val_main_v27, val_main_v28]
  have hs : ∀ h : r.val < 2047, (⟨2 + r.val - 1, by omega⟩ : Fin 2048) = ⟨r.val + 1, by omega⟩ := fun h => Fin.ext (by simp only; omega)
  by_cases h0 : 0 < r.val
  · by_cases h1 : r.val < 2047
    · simp (disch := omega) only [dif_pos, dif_neg]
      rw [hs h1]
    · simp (disch := omega) only [dif_pos, dif_neg]
      rw [pad_zero]
  · simp (disch := omega) only [dif_pos, dif_neg]
    rw [hs (by omega), pad_zero]

/-- An end chunk's convolution is the reference's at a row whose neighbours the chunk holds, or which is the first or the last. -/
theorem convEnd_eq (u : FVec Ideal S528x2816 .f32) (k : Vec Ideal S3x2816 .f32) (p : Fin 528) (q : Fin 2816) (b : Fin 8) (r : Fin 2048) (c : Fin 5632)
    (s : Nat) (hs : s + 528 ≤ 2048) (hu : ∀ (p' : Fin 528) (r' : Fin 2048), r'.val = s + p'.val → u (ix2 p' q) = val_main_v7 (F := Ideal) X U (ix3 b r' c))
    (hk : ∀ n, k (ix2 n q) = K (ix3 0 n c)) (hr : r.val = s + p.val) (h0 : p.val = 0 → r.val = 0) (h1 : p.val = 527 → r.val = 2047) :
    convEnd u k (ix2 p q) = val_main_v28 (F := Ideal) X U K (ix3 b r c) := by
  rw [convEnd_apply, conv_apply, beforeEnd, afterEnd, hk 0, hk 1, hk 2, hu p r hr]
  have hb : (if h : 0 < p.val then u (ix2 ⟨p.val - 1, by omega⟩ q) else 0)
      = (if h : 0 < r.val then val_main_v7 (F := Ideal) X U (ix3 b ⟨r.val - 1, by omega⟩ c) else 0 : EReal) := by
    by_cases h : 0 < p.val
    · rw [dif_pos h, dif_pos (by omega)]
      exact hu _ _ (by simp only; omega)
    · rw [dif_neg h, dif_neg (by have := h0 (by omega); omega)]
  have ha : (if h : p.val < 527 then u (ix2 ⟨p.val + 1, by omega⟩ q) else 0)
      = (if h : r.val < 2047 then val_main_v7 (F := Ideal) X U (ix3 b ⟨r.val + 1, by omega⟩ c) else 0 : EReal) := by
    by_cases h : p.val < 527
    · rw [dif_pos h, dif_pos (by omega)]
      exact hu _ _ (by simp only; omega)
    · rw [dif_neg h, dif_neg (by have := h1 (by omega); omega)]
  rw [hb, ha]

/-- The convolution of a chunk between is the reference's at a row whose neighbours the chunk holds, or which is the first or the last. -/
theorem convMid_eq (u : FVec Ideal S544x2816 .f32) (k : Vec Ideal S3x2816 .f32) (p : Fin 544) (q : Fin 2816) (b : Fin 8) (r : Fin 2048) (c : Fin 5632)
    (s : Nat) (hs : s + 544 ≤ 2048) (hu : ∀ (p' : Fin 544) (r' : Fin 2048), r'.val = s + p'.val → u (ix2 p' q) = val_main_v7 (F := Ideal) X U (ix3 b r' c))
    (hk : ∀ n, k (ix2 n q) = K (ix3 0 n c)) (hr : r.val = s + p.val) (h0 : p.val = 0 → r.val = 0) (h1 : p.val = 543 → r.val = 2047) :
    convMid u k (ix2 p q) = val_main_v28 (F := Ideal) X U K (ix3 b r c) := by
  rw [convMid_apply, conv_apply, beforeMid, afterMid, hk 0, hk 1, hk 2, hu p r hr]
  have hb : (if h : 0 < p.val then u (ix2 ⟨p.val - 1, by omega⟩ q) else 0)
      = (if h : 0 < r.val then val_main_v7 (F := Ideal) X U (ix3 b ⟨r.val - 1, by omega⟩ c) else 0 : EReal) := by
    by_cases h : 0 < p.val
    · rw [dif_pos h, dif_pos (by omega)]
      exact hu _ _ (by simp only; omega)
    · rw [dif_neg h, dif_neg (by have := h0 (by omega); omega)]
  have ha : (if h : p.val < 543 then u (ix2 ⟨p.val + 1, by omega⟩ q) else 0)
      = (if h : r.val < 2047 then val_main_v7 (F := Ideal) X U (ix3 b ⟨r.val + 1, by omega⟩ c) else 0 : EReal) := by
    by_cases h : p.val < 543
    · rw [dif_pos h, dif_pos (by omega)]
      exact hu _ _ (by simp only; omega)
    · rw [dif_neg h, dif_neg (by have := h1 (by omega); omega)]
  rw [hb, ha]

/-- The reference's convolution is a real number where the activations, the weights and the taps are. -/
theorem conv_isReal (hX : ∀ i, IsReal (X i)) (hU : ∀ i, IsReal (U i)) (hK : ∀ i, IsReal (K i)) (b : Fin 8) (r : Fin 2048) (c : Fin 5632) :
    IsReal (val_main_v28 (F := Ideal) X U K (ix3 b r c)) := by
  have hv : ∀ r, IsReal (val_main_v7 (F := Ideal) X U (ix3 b r c)) := fun r => by
    pointwise [val_main_v0, val_main_v1, val_main_v2, val_main_v7]
    exact IsReal.sum fun j => (hX _).mul (hU _)
  have hz : IsReal 0 := isReal_coe 0
  rw [conv_apply]
  refine ((IsReal.mul ?_ (hK _)).add ((hv _).mul (hK _))).add (IsReal.mul ?_ (hK _))
  · split
    · exact hv _
    · exact hz
  · split
    · exact hv _
    · exact hz

theorem gelu_apply {s : Shape} (g : FVec Ideal s .f32) (i : s.Idx) :
    gelu g i = (Ideal.ofBits .f32 0x3F000000#32 * g i + Ideal.ofBits .f32 0x3F000000#32 * g i
        * Ideal.tanh (g i * (Ideal.ofBits .f32 0x3F4C422A#32 + Named.named (F := Ideal) κ "gelu_cubic" (φ := .f32) 0x3D122279#32 * (g i * g i))) : EReal) := rfl

/-- The reference's activation, from its convolution. -/
theorem act_apply (b : Fin 8) (r : Fin 2048) (q : Fin 2816) (x v : EReal)
    (hx : x = val_main_v28 (F := Ideal) X U K (ix3 b r ⟨q.val, by omega⟩)) (hv : v = val_main_v28 (F := Ideal) X U K (ix3 b r ⟨2816 + q.val, by omega⟩)) :
    val_main_v44 (F := Ideal) X U K (ix3 b r q) = x * (Ideal.ofBits .f32 0x3F000000#32 * (Ideal.ofBits .f32 0x3F800000#32
        + Ideal.tanh (Ideal.ofBits .f32 0x3F4C422A#32 * (x + Ideal.ofBits .f32 0x3D372713#32 * (x * x * x))))) * v := by
  rw [hx, hv]
  pointwise [val_main_v29, val_main_v30, val_main_v31, val_main_v32, val_main_v33, val_main_v34, val_main_v35, val_main_v36, val_main_v37, val_main_v38,
    val_main_v39, val_main_v40, val_main_v41, val_main_v42, val_main_v43, val_main_v44, val_main_cst, val_main_cst_0, val_main_cst_1, val_main_cst_2]

/-- The reference's result at a row and column. -/
theorem down_ref (b : Fin 8) (r : Fin 2048) (k : Fin 1024) :
    val_main_v46 (F := Ideal) X U K W (ix3 b r k) = ∑ j, val_main_v44 (F := Ideal) X U K (ix3 b r j) * W (ix3 0 j k) := by
  pointwise [val_main_v5, val_main_v6, val_main_v45, val_main_v46]

theorem down_apply (a : FVec Ideal S512x2816 .f32) (w : Vec Ideal S2816x1024 .bf16) (i : S1x512x1024.Idx) :
    down a w i = ∑ j, a (ix2 (i 1) j) * w (ix2 j (i 2)) := by
  pointwise [down]

end Cert.Ffn

end
-- ==== Proof.Ffn.lean ====
/- The gated FFN, index by index: the array that the kernel leaves is the reference's. -/
module

public import proofs.«01_k».proof.Proof.FfnRows

@[expose] public section

set_option maxRecDepth 16384
set_option maxHeartbeats 2000000

noncomputable section

namespace Cert.Ffn

open Cert.Kernel2Ideal Cert.Kernel2Ideal.Gen Cert.Reference2Ideal.Read Idealize.ShloMosaic Idealize.ShloMosaic.TcCoe Idealize.SL.Sem
open Cert.RealSums

/-- The gate's columns of the projection, and the value's. -/
theorem ld_gate (w : Vec Ideal S1024x5632 .bf16) (j : Fin 1024) (q : Fin 2816) : View.ld w r0_1 (ix2 j q) = w (ix2 j ⟨q.val, by omega⟩) :=
  View.ld_unit_apply_of w _ _ _ (ix2 j q) _ fun a => by
    match a with
    | ⟨0, _⟩ => exact (Nat.zero_add _).symm
    | ⟨1, _⟩ => exact (Nat.zero_add _).symm
theorem ld_val (w : Vec Ideal S1024x5632 .bf16) (j : Fin 1024) (q : Fin 2816) : View.ld w r0_2 (ix2 j q) = w (ix2 j ⟨2816 + q.val, by omega⟩) :=
  View.ld_unit_apply_of w _ _ _ (ix2 j q) _ fun a => by
    match a with
    | ⟨0, _⟩ => exact (Nat.zero_add _).symm
    | ⟨1, _⟩ => rfl

/-- The projection back. -/
theorem ld_down (w : Vec Ideal S2816x1024 .bf16) (j : Fin 2816) (k : Fin 1024) : View.ld w r0_9 (ix2 j k) = w (ix2 j k) :=
  View.ld_unit_apply_of w _ _ _ (ix2 j k) _ fun a => by
    match a with
    | ⟨0, _⟩ => exact (Nat.zero_add _).symm
    | ⟨1, _⟩ => exact (Nat.zero_add _).symm

/-- The gate's taps, and the value's. -/
theorem taps0_apply (k : Vec Ideal S1x3x5632 .f32) (n : Fin 3) (q : Fin 2816) : taps0 k (ix2 n q) = k (ix3 0 n ⟨q.val, by omega⟩) := by
  have h : View.ld k r0_4 (ix3 0 n q) = k (ix3 0 n ⟨q.val, by omega⟩) :=
    View.ld_unit_apply_of k _ _ _ (ix3 0 n q) _ fun a => by
      match a with
      | ⟨0, _⟩ => rfl
      | ⟨1, _⟩ => exact (Nat.zero_add _).symm
      | ⟨2, _⟩ => exact (Nat.zero_add _).symm
  rw [← h]
  unfold taps0
  generalize View.ld k r0_4 = w
  pointwise []
theorem taps1_apply (k : Vec Ideal S1x3x5632 .f32) (n : Fin 3) (q : Fin 2816) : taps1 k (ix2 n q) = k (ix3 0 n ⟨2816 + q.val, by omega⟩) := by
  have h : View.ld k r0_8 (ix3 0 n q) = k (ix3 0 n ⟨2816 + q.val, by omega⟩) :=
    View.ld_unit_apply_of k _ _ _ (ix3 0 n q) _ fun a => by
      match a with
      | ⟨0, _⟩ => rfl
      | ⟨1, _⟩ => exact (Nat.zero_add _).symm
      | ⟨2, _⟩ => rfl
  rw [← h]
  unfold taps1
  generalize View.ld k r0_8 = w
  pointwise []

/-- The rows that a chunk loads. -/
theorem ld_rowsEnd (x : Vec Ideal S1x2048x1024 .bf16) (o : Nat) (h) (i : Fin 528) (k : Fin 1024) (r : Fin 2048) (ho : r.val = o + i.val) :
    View.ld x (Rect.unit (s := S1x2048x1024) ![0, o, 0] S1x528x1024.size h) (ix3 0 i k) = x (ix3 0 r k) :=
  View.ld_unit_apply_of x _ _ h (ix3 0 i k) _ fun a => by
    match a with
    | ⟨0, _⟩ => rfl
    | ⟨1, _⟩ => exact ho
    | ⟨2, _⟩ => exact (Nat.zero_add _).symm
theorem ld_rowsMid (x : Vec Ideal S1x2048x1024 .bf16) (o : Nat) (h) (i : Fin 544) (k : Fin 1024) (r : Fin 2048) (ho : r.val = o + i.val) :
    View.ld x (Rect.unit (s := S1x2048x1024) ![0, o, 0] S1x544x1024.size h) (ix3 0 i k) = x (ix3 0 r k) :=
  View.ld_unit_apply_of x _ _ h (ix3 0 i k) _ fun a => by
    match a with
    | ⟨0, _⟩ => rfl
    | ⟨1, _⟩ => exact ho
    | ⟨2, _⟩ => exact (Nat.zero_add _).symm

variable (X : Vec Ideal Cert.Reference2Ideal.S8x2048x1024 .bf16) (U : Vec Ideal Cert.Reference2Ideal.S2x1024x5632 .f32)
  (K : Vec Ideal Cert.Reference2Ideal.S2x3x5632 .f32) (W : Vec Ideal Cert.Reference2Ideal.S2x2816x1024 .f32)

/-- A chunk's projected rows are the reference's. -/
theorem upEnd_eq (x : Vec Ideal S1x528x1024 .bf16) (w : Vec Ideal S1024x2816 .bf16) (p : Fin 528) (q : Fin 2816) (b : Fin 8) (r : Fin 2048) (c : Fin 5632)
    (hx : ∀ j, x (ix3 0 p j) = X (ix3 b r j)) (hw : ∀ j, w (ix2 j q) = U (ix3 0 j c)) :
    k0_pay3 x w (ix2 p q) = val_main_v7 (F := Ideal) X U (ix3 b r c) := by
  pointwise [k0_pay2, k0_pay3, val_main_v0, val_main_v1, val_main_v2, val_main_v7]
  simp only [hx, hw]
theorem upMid_eq (x : Vec Ideal S1x544x1024 .bf16) (w : Vec Ideal S1024x2816 .bf16) (p : Fin 544) (q : Fin 2816) (b : Fin 8) (r : Fin 2048) (c : Fin 5632)
    (hx : ∀ j, x (ix3 0 p j) = X (ix3 b r j)) (hw : ∀ j, w (ix2 j q) = U (ix3 0 j c)) :
    k0_pay6 x w (ix2 p q) = val_main_v7 (F := Ideal) X U (ix3 b r c) := by
  pointwise [k0_pay5, k0_pay6, val_main_v0, val_main_v1, val_main_v2, val_main_v7]
  simp only [hx, hw]

section Chunks

variable (hX : ∀ i, IsReal (X i)) (hU : ∀ i, IsReal (U i)) (hK : ∀ i, IsReal (K i))
  (x1 : Vec Ideal S1024x5632 .bf16) (x2 : Vec Ideal S1x3x5632 .f32)
  (h1 : ∀ j c, x1 (ix2 j c) = U (ix3 0 j c)) (h2 : ∀ n c, x2 (ix3 0 n c) = K (ix3 0 n c))
include hX hU hK h1 h2

/-- A chunk's activations are the reference's. -/
theorem actEnd_eq (x : Vec Ideal S1x528x1024 .bf16) (p : Fin 528) (q : Fin 2816) (b : Fin 8) (r : Fin 2048) (s : Nat) (hs : s + 528 ≤ 2048)
    (hx : ∀ (p' : Fin 528) (r' : Fin 2048) j, r'.val = s + p'.val → x (ix3 0 p' j) = X (ix3 b r' j))
    (hr : r.val = s + p.val) (hp0 : p.val = 0 → r.val = 0) (hp1 : p.val = 527 → r.val = 2047) :
    actEnd x x1 x2 (ix2 p q) = val_main_v44 (F := Ideal) X U K (ix3 b r q) := by
  have hg := convEnd_eq X U K (k0_pay3 x (View.ld x1 r0_1)) (taps0 x2) p q b r ⟨q.val, by omega⟩ s hs
    (fun p' r' hr' => upEnd_eq X U x _ p' q b r' _ (fun j => hx p' r' j hr') fun j => (ld_gate x1 j q).trans (h1 _ _))
    (fun n => (taps0_apply x2 n q).trans (h2 _ _)) hr hp0 hp1
  have hv := convEnd_eq X U K (k0_pay3 x (View.ld x1 r0_2)) (taps1 x2) p q b r ⟨2816 + q.val, by omega⟩ s hs
    (fun p' r' hr' => upEnd_eq X U x _ p' q b r' _ (fun j => hx p' r' j hr') fun j => (ld_val x1 j q).trans (h1 _ _))
    (fun n => (taps1_apply x2 n q).trans (h2 _ _)) hr hp0 hp1
  rw [act_apply X U K b r q _ _ hg hv, ← gelu_real (hg ▸ conv_isReal X U K hX hU hK b r _), ← gelu_apply]
  rfl
theorem actMid_eq (x : Vec Ideal S1x544x1024 .bf16) (p : Fin 544) (q : Fin 2816) (b : Fin 8) (r : Fin 2048) (s : Nat) (hs : s + 544 ≤ 2048)
    (hx : ∀ (p' : Fin 544) (r' : Fin 2048) j, r'.val = s + p'.val → x (ix3 0 p' j) = X (ix3 b r' j))
    (hr : r.val = s + p.val) (hp0 : p.val = 0 → r.val = 0) (hp1 : p.val = 543 → r.val = 2047) :
    actMid x x1 x2 (ix2 p q) = val_main_v44 (F := Ideal) X U K (ix3 b r q) := by
  have hg := convMid_eq X U K (k0_pay6 x (View.ld x1 r0_1)) (taps0 x2) p q b r ⟨q.val, by omega⟩ s hs
    (fun p' r' hr' => upMid_eq X U x _ p' q b r' _ (fun j => hx p' r' j hr') fun j => (ld_gate x1 j q).trans (h1 _ _))
    (fun n => (taps0_apply x2 n q).trans (h2 _ _)) hr hp0 hp1
  have hv := convMid_eq X U K (k0_pay6 x (View.ld x1 r0_2)) (taps1 x2) p q b r ⟨2816 + q.val, by omega⟩ s hs
    (fun p' r' hr' => upMid_eq X U x _ p' q b r' _ (fun j => hx p' r' j hr') fun j => (ld_val x1 j q).trans (h1 _ _))
    (fun n => (taps1_apply x2 n q).trans (h2 _ _)) hr hp0 hp1
  rw [act_apply X U K b r q _ _ hg hv, ← gelu_real (hg ▸ conv_isReal X U K hX hU hK b r _), ← gelu_apply]
  rfl

end Chunks

/-- A chunk's stored rows are the reference's, when its activations are. -/
theorem down_eq (a : FVec Ideal S512x2816 .f32) (x3 : Vec Ideal S2816x1024 .bf16) (i : S1x512x1024.Idx) (b : Fin 8) (r : Fin 2048)
    (ha : ∀ j, a (ix2 (i 1) j) = val_main_v44 (F := Ideal) X U K (ix3 b r j)) (h3 : ∀ j k, x3 (ix2 j k) = W (ix3 0 j k)) :
    down a (View.ld x3 r0_9) i = val_main_v46 (F := Ideal) X U K W (ix3 b r (i 2)) := by
  refine (down_apply a _ i).trans (Eq.trans ?_ (down_ref X U K W b r (i 2)).symm)
  exact Finset.sum_congr rfl fun j _ => congrArg₂ (fun x y : EReal => x * y) (ha j) ((ld_down x3 j (i 2)).trans (h3 j (i 2)))

/-- The rows of a chunk that are stored. -/
theorem sliceEnd (a : FVec Ideal S528x2816 .f32) (i : Fin 512) (j : Fin 2816) :
    extractStridedSlice S512x2816 ![16, 0] a slices_S528x2816_o16_0_S512x2816 (ix2 i j) = a (ix2 ⟨16 + i.val, by omega⟩ j) := by
  pointwise []
theorem sliceFirst (a : FVec Ideal S528x2816 .f32) (i : Fin 512) (j : Fin 2816) :
    extractStridedSlice S512x2816 ![0, 0] a slices_S528x2816_o0_0_S512x2816 (ix2 i j) = a (ix2 ⟨i.val, by omega⟩ j) := by
  pointwise []
theorem sliceMid (a : FVec Ideal S544x2816 .f32) (i : Fin 512) (j : Fin 2816) :
    extractStridedSlice S512x2816 ![16, 0] a slices_S544x2816_o16_0_S512x2816 (ix2 i j) = a (ix2 ⟨16 + i.val, by omega⟩ j) := by
  pointwise []

variable (m : (ℓ : Loc nD τ sig) → Buf (Elt Ideal) ℓ)

/-- Which block each window stages at a grid point. -/
theorem idx : ∀ t : Fin cfg0.N, (win0_0.index t = ![(grid0.coords t 0).val, 0, 0] ∧ win0_1.index t = ![0, 0]
    ∧ win0_2.index t = ![0, 0, 0] ∧ win0_3.index t = ![0, 0]) ∧ win0_4.index t = ![(grid0.coords t 0).val, 0, 0] ∧ (grid0.coords t 0).val < 8 :=
  (by decide +kernel : ∀ t : Fin grid0.N, (win0_0.index t = ![(grid0.coords t 0).val, 0, 0] ∧ win0_1.index t = ![0, 0]
    ∧ win0_2.index t = ![0, 0, 0] ∧ win0_3.index t = ![0, 0]) ∧ win0_4.index t = ![(grid0.coords t 0).val, 0, 0] ∧ (grid0.coords t 0).val < 8)

/-- The staged blocks, entry by entry. -/
theorem staged (c : Dev nD) (t : Fin cfg0.N) (b : Fin 8) (hb : b.val = (grid0.coords t 0).val) :
    (∀ (r : Fin 2048) (k : Fin 1024), iblk m c 0 t (ix3 0 r k) = m ((c : Thread nD τ).loc main_arg0) (ix3 b r k))
    ∧ (∀ (j : Fin 1024) (k : Fin 5632), iblk m c 1 t (ix2 j k) = m ((c : Thread nD τ).loc main_arg1) (ix3 0 j k))
    ∧ (∀ (n : Fin 3) (k : Fin 5632), iblk m c 2 t (ix3 0 n k) = m ((c : Thread nD τ).loc main_arg2) (ix3 0 n k))
    ∧ (∀ (j : Fin 2816) (k : Fin 1024), iblk m c 3 t (ix2 j k) = m ((c : Thread nD τ).loc main_arg3) (ix3 0 j k)) := by
  obtain ⟨⟨e0, e1, e2, e3⟩, e4, ht⟩ := idx t
  refine ⟨fun r k => ?_, fun j k => ?_, fun n k => ?_, fun j k => ?_⟩
  · blk_point [iblk, V, e0, hb]
  · blk_point [iblk, V, e1]
  · blk_point [iblk, V, e2]
  · blk_point [iblk, V, e3]

/-- Where an entry of the block lies in the array. -/
theorem place (t : Fin cfg0.N) (z : ((cfg0.win 4).xblock (cfg0.grid.coords t)).Idx) (b : Fin 8) (r : Fin 2048) (k : Fin 1024)
    (hb : b.val = (grid0.coords t 0).val) (hr : r.val = (z 1).val) (hk : k.val = (z 2).val) :
    (win0_4.blk t).view.emb z = ix3 b r k := by
  obtain ⟨-, e4, -⟩ := idx t
  funext a
  match a with
  | ⟨0, _⟩ => exact Fin.ext (by blk_simp [e4]; exact hb.symm)
  | ⟨1, _⟩ => exact Fin.ext (by blk_simp [e4]; exact hr.symm)
  | ⟨2, _⟩ => exact Fin.ext (by blk_simp [e4]; exact hk.symm)

/-- What the kernel leaves is the reference's array. -/
theorem value (c : Dev nD) (hX : ∀ i, IsReal (m ((c : Thread nD τ).loc main_arg0) i)) (hU : ∀ i, IsReal (m ((c : Thread nD τ).loc main_arg1) i))
    (hK : ∀ i, IsReal (m ((c : Thread nD τ).loc main_arg2) i)) :
    (dats m 0 c).arrAt 4 cfg0.N = val_main_v46 (F := Ideal) (m ((c : Thread nD τ).loc main_arg0)) (m ((c : Thread nD τ).loc main_arg1))
      (m ((c : Thread nD τ).loc main_arg2)) (m ((c : Thread nD τ).loc main_arg3)) := by
  refine (dats m 0 c).arrAt_eq_of_covers 4 _ (by decide +kernel) fun t hf z => ?_
  obtain ⟨-, e4, ht⟩ := idx t
  obtain ⟨s0, s1, s2, s3⟩ := staged m c t ⟨(grid0.coords t 0).val, ht⟩ rfl
  blk_simp
  rw [after0_4, out_eq]
  canon_tiles y h
  · refine Eq.trans ?_ (congrArg _ (place t z ⟨_, ht⟩ ⟨1536 + (y 1).val, by omega⟩ (y 2) rfl (by simp only; omega) (by omega)).symm)
    exact down_eq _ _ _ _ _ _ y ⟨_, ht⟩ _ (fun j => (sliceEnd _ (y 1) j).trans (actEnd_eq _ _ _ hX hU hK _ _ s1 s2 _ _ j ⟨_, ht⟩ _ 1520 (by omega)
      (fun p' r' k hr => (ld_rowsEnd _ 1520 _ p' k r' hr).trans (s0 _ _)) (by simp only; omega) (by simp only; omega) (by simp only; omega))) s3
  · refine Eq.trans ?_ (congrArg _ (place t z ⟨_, ht⟩ ⟨1024 + (y 1).val, by omega⟩ (y 2) rfl (by simp only; omega) (by omega)).symm)
    exact down_eq _ _ _ _ _ _ y ⟨_, ht⟩ _ (fun j => (sliceMid _ (y 1) j).trans (actMid_eq _ _ _ hX hU hK _ _ s1 s2 _ _ j ⟨_, ht⟩ _ 1008 (by omega)
      (fun p' r' k hr => (ld_rowsMid _ 1008 _ p' k r' hr).trans (s0 _ _)) (by simp only; omega) (by simp only; omega) (by simp only; omega))) s3
  · refine Eq.trans ?_ (congrArg _ (place t z ⟨_, ht⟩ ⟨512 + (y 1).val, by omega⟩ (y 2) rfl (by simp only; omega) (by omega)).symm)
    exact down_eq _ _ _ _ _ _ y ⟨_, ht⟩ _ (fun j => (sliceMid _ (y 1) j).trans (actMid_eq _ _ _ hX hU hK _ _ s1 s2 _ _ j ⟨_, ht⟩ _ 496 (by omega)
      (fun p' r' k hr => (ld_rowsMid _ 496 _ p' k r' hr).trans (s0 _ _)) (by simp only; omega) (by simp only; omega) (by simp only; omega))) s3
  · refine Eq.trans ?_ (congrArg _ (place t z ⟨_, ht⟩ ⟨(y 1).val, by omega⟩ (y 2) rfl (by simp only; omega) (by omega)).symm)
    exact down_eq _ _ _ _ _ _ y ⟨_, ht⟩ _ (fun j => (sliceFirst _ (y 1) j).trans (actEnd_eq _ _ _ hX hU hK _ _ s1 s2 _ _ j ⟨_, ht⟩ _ 0 (by omega)
      (fun p' r' k hr => (ld_rowsEnd _ 0 _ p' k r' hr).trans (s0 _ _)) (by simp only; omega) (by simp only; omega) (by simp only; omega))) s3

end Cert.Ffn

end
-- ==== Proof.FfnClaims.lean ====
/- The claims about the gated FFN: the reference's frame, and that kernel and reference leave the same array when the
   activations, the projecting weight and the taps are finite. -/
module

public import proofs.«01_k».proof.Defs
public import proofs.«01_k».proof.Proof.Finite
public import proofs.«01_k».proof.Proof.Ffn
public import proofs.«01_k».proof.Proof.Gen.Pre_finite2
public import proofs.«01_k».proof.Proof.Gen.Kernel2.Frame
public import proofs.«01_k».proof.Proof.Gen.Reference2Ideal.Run
public import Idealize.ShloMosaic.Lib.Quiescent

@[expose] public section

set_option maxRecDepth 16384

noncomputable section

namespace Cert.Ffn

open Cert.Kernel2Ideal Cert.Kernel2Ideal.Gen Cert.Reference2Ideal.Read Idealize.ShloMosaic Idealize.ShloMosaic.TcCoe Idealize.SL.Sem
open Cert.RealSums

theorem finite_arrays (x0 : FVec Ideal Cert.Pre_finite2.S8x2048x1024 .bf16) (x1 : FVec Ideal Cert.Pre_finite2.S2x1024x5632 .f32)
    (x2 : FVec Ideal Cert.Pre_finite2.S2x3x5632 .f32) (x3 : FVec Ideal Cert.Pre_finite2.S2x2816x1024 .f32)
    (h : Cert.Pre_finite2.fn (F := Ideal) x0 x1 x2 x3 = fun _ => 1#1) : (∀ i, IsReal (x0 i)) ∧ (∀ i, IsReal (x1 i)) ∧ ∀ i, IsReal (x2 i) := by
  have e := congrFun h (Shape.Idx.first Cert.Pre_finite2.Gen.facts.h_S_)
  dsimp only [Cert.Pre_finite2.fn] at e
  obtain ⟨e01, e2⟩ := and_one _ _ _ e
  obtain ⟨e0, e1⟩ := and_one _ _ _ e01
  refine ⟨fun i => ?_, fun i => ?_, fun i => ?_⟩
  · exact isReal_of_olt _ _ infinity16 (Host.reduce_andi_all _ _ _ _ _ e0 i)
  · exact isReal_of_olt _ _ infinity32 (Host.reduce_andi_all _ _ _ _ _ e1 i)
  · exact isReal_of_olt _ _ infinity32 (Host.reduce_andi_all _ _ _ _ _ e2 i)

theorem frameReference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Both programs leave the array that the reference's operations compute from the arguments. -/
theorem algebraic : Cert.algebraic_Kernel2Ideal_Reference2Ideal_pre_finite2 := by
  intro m g m' g' hp hagree
  refine ⟨fun c => val_main_v46 (F := Ideal) (m ((c : Thread nD τ).loc main_arg0)) (m ((c : Thread nD τ).loc main_arg1)) (m ((c : Thread nD τ).loc main_arg2))
        (m ((c : Thread nD τ).loc main_arg3)), ?_, ?_⟩
  · refine (θ_run Cert.Kernel2Ideal.defs _ _).mono (fun r h c => ?_) (Cert.Kernel2Ideal.Value.run_blocks (F := Ideal) m g)
    obtain ⟨hx, hu, hk⟩ := finite_arrays _ _ _ _ (hp c)
    exact ⟨(h c).1.trans (value m c hx hu hk), (h c).2⟩
  · refine (θ_run Cert.Reference2Ideal.defs _ _).mono (fun r h c => ⟨(h c).1.trans ?_, (h c).2⟩)
      (Cert.Reference2Ideal.Value.run (F := Ideal) m' g')
    obtain ⟨e0, e1, e2, e3⟩ := hagree c
    rw [val_main_v46_eq, e0, e1, e2, e3]

end Cert.Ffn

end
-- ==== Proof.Merge.lean ====
/- The gated merge, index by index: the array that the kernel leaves is the reference's. -/
module

public import proofs.«01_k».proof.Proof.Gen.Kernel3Ideal.Value
public import proofs.«01_k».proof.Proof.Gen.Reference3Ideal.Read
public import Idealize.ShloMosaic.Lib.Pipeline.ValueKit

@[expose] public section

set_option maxRecDepth 16384
set_option maxHeartbeats 2000000

noncomputable section

namespace Cert.Merge

open Cert.Kernel3Ideal Cert.Kernel3Ideal.Gen Cert.Reference3Ideal.Read Idealize.ShloMosaic Idealize.ShloMosaic.TcCoe Idealize.SL.Sem

variable (m : (ℓ : Loc nD τ sig) → Buf (Elt Ideal) ℓ)

/-- Which block each window stages at a grid point: the rows' windows move with the point, the others stay. -/
theorem idx : ∀ t : Fin cfg0.N, (win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_10.index t = ![(grid0.coords t 0).val, 0])
    ∧ (win0_5.index t = ![0, 0] ∧ win0_6.index t = ![0, 0, 0] ∧ win0_7.index t = ![0, 0, 0] ∧ win0_8.index t = ![0, 0]
    ∧ win0_9.index t = ![1, 0, 0] ∧ (grid0.coords t 0).val < 16) :=
  (by decide +kernel : ∀ t : Fin grid0.N, (win0_0.index t = ![(grid0.coords t 0).val, 0] ∧ win0_1.index t = ![(grid0.coords t 0).val, 0]
    ∧ win0_2.index t = ![(grid0.coords t 0).val, 0] ∧ win0_3.index t = ![(grid0.coords t 0).val, 0]
    ∧ win0_4.index t = ![(grid0.coords t 0).val, 0] ∧ win0_10.index t = ![(grid0.coords t 0).val, 0])
    ∧ (win0_5.index t = ![0, 0] ∧ win0_6.index t = ![0, 0, 0] ∧ win0_7.index t = ![0, 0, 0] ∧ win0_8.index t = ![0, 0]
    ∧ win0_9.index t = ![1, 0, 0] ∧ (grid0.coords t 0).val < 16))

/-- The gated sum of the three branches, on the upper half of the rows of a block. -/
def mergedUpper (c : Dev nD) (t : Fin cfg0.N) : FVec Ideal S512x1024 .bf16 :=
  k0_pay4 (View.ld (iblk m c 0 t) r0_0) (View.ld (iblk m c 4 t) r0_1)
    (k0_pay3 (View.ld (iblk m c 0 t) r0_0) (View.ld (iblk m c 2 t) r0_1) (View.ld (iblk m c 3 t) r0_1)
      (View.ld (iblk m c 5 t) r0_2) (View.ld (iblk m c 6 t) r0_3) (View.ld (iblk m c 7 t) r0_4)
      (View.ld (iblk m c 5 t) r0_5) (View.ld (iblk m c 6 t) r0_6) (View.ld (iblk m c 7 t) r0_7))
    (View.ld (iblk m c 5 t) r0_8) (View.ld (iblk m c 6 t) r0_9) (View.ld (iblk m c 7 t) r0_10)

/-- The gated sum of the three branches, on the lower half of the rows of a block. -/
def mergedLower (c : Dev nD) (t : Fin cfg0.N) : FVec Ideal S512x1024 .bf16 :=
  k0_pay7 (View.ld (iblk m c 0 t) r0_11) (View.ld (iblk m c 3 t) r0_12) (View.ld (iblk m c 4 t) r0_12)
    (k0_pay5 (View.ld (iblk m c 0 t) r0_11) (View.ld (iblk m c 2 t) r0_12) (View.ld (iblk m c 5 t) r0_2)
      (View.ld (iblk m c 6 t) r0_3) (View.ld (iblk m c 7 t) r0_4))
    (k0_pay6 (View.ld (iblk m c 5 t) r0_5)) (View.ld (iblk m c 6 t) r0_6) (View.ld (iblk m c 7 t) r0_7)
    (View.ld (iblk m c 5 t) r0_8) (View.ld (iblk m c 6 t) r0_9) (View.ld (iblk m c 7 t) r0_10)

theorem mergedUpper_apply (c : Dev nD) (t : Fin cfg0.N) (i : S512x1024.Idx) (r : Fin 16384)
    (hr : r.val = 1024 * (grid0.coords t 0).val + (i 0).val) :
    mergedUpper m c t i = val_main_v39 (F := Ideal) (m ((c : Thread nD τ).loc main_arg0)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (ix2 r (i 1)) := by
  obtain ⟨⟨e0, e1, e2, e3, e4, e10⟩, e5, e6, e7, e8, e9, ht⟩ := idx t
  unfold mergedUpper
  pointwise [k0_pay4, k0_pay3,
    val_main_v0, val_main_v1, val_main_v2, val_main_v3, val_main_v4, val_main_v5, val_main_v6, val_main_v7, val_main_v8, val_main_v9,
    val_main_v10, val_main_v11, val_main_v12, val_main_cst, val_main_v13, val_main_v14, val_main_cst_0, val_main_v15, val_main_v16,
    val_main_v17, val_main_v18, val_main_v19, val_main_v20, val_main_v21, val_main_v22, val_main_v23, val_main_v24, val_main_v25, val_main_v26,
    val_main_v27, val_main_v28, val_main_v29, val_main_v30, val_main_v31, val_main_v32, val_main_v33, val_main_v34, val_main_v35, val_main_v36,
    val_main_v37, val_main_v38, val_main_v39]
  simp only [Ideal.logistic]
  blk_point [iblk, V, e0, e1, e2, e3, e4, e5, e6, e7, e8, e9, e10, hr]

theorem mergedLower_apply (c : Dev nD) (t : Fin cfg0.N) (i : S512x1024.Idx) (r : Fin 16384)
    (hr : r.val = 1024 * (grid0.coords t 0).val + (512 + (i 0).val)) :
    mergedLower m c t i = val_main_v39 (F := Ideal) (m ((c : Thread nD τ).loc main_arg0)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (ix2 r (i 1)) := by
  obtain ⟨⟨e0, e1, e2, e3, e4, e10⟩, e5, e6, e7, e8, e9, ht⟩ := idx t
  unfold mergedLower
  pointwise [k0_pay7, k0_pay6, k0_pay5,
    val_main_v0, val_main_v1, val_main_v2, val_main_v3, val_main_v4, val_main_v5, val_main_v6, val_main_v7, val_main_v8, val_main_v9,
    val_main_v10, val_main_v11, val_main_v12, val_main_cst, val_main_v13, val_main_v14, val_main_cst_0, val_main_v15, val_main_v16,
    val_main_v17, val_main_v18, val_main_v19, val_main_v20, val_main_v21, val_main_v22, val_main_v23, val_main_v24, val_main_v25, val_main_v26,
    val_main_v27, val_main_v28, val_main_v29, val_main_v30, val_main_v31, val_main_v32, val_main_v33, val_main_v34, val_main_v35, val_main_v36,
    val_main_v37, val_main_v38, val_main_v39]
  simp only [Ideal.logistic]
  blk_point [iblk, V, e0, e1, e2, e3, e4, e5, e6, e7, e8, e9, e10, hr]

theorem value (c : Dev nD) :
    (dats m 0 c).arrAt 10 cfg0.N = val_main_v58 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) := by
  refine (dats m 0 c).arrAt_eq_of_covers 10 _ (by decide +kernel) fun t hf z => ?_
  obtain ⟨⟨e0, e1, e2, e3, e4, e10⟩, e5, e6, e7, e8, e9, ht⟩ := idx t
  blk_simp
  rw [after0_10]
  unfold_out out0_10
  canon_tiles y h
  · have hy : ∀ k, mergedLower m c t (ix2 (y 0) k) = val_main_v39 (F := Ideal) (m ((c : Thread nD τ).loc main_arg0)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7))
        (ix2 ⟨1024 * (grid0.coords t 0).val + (512 + (y 0).val), by omega⟩ k) :=
      fun k => mergedLower_apply m c t (ix2 (y 0) k) _ rfl
    change k0_pay2 (mergedLower m c t) _ _ _ y = _
    pointwise [k0_pay2, val_main_v40, val_main_v41, val_main_v42, val_main_v43, val_main_v44, val_main_v45, val_main_cst_1, val_main_v46, val_main_v47,
    val_main_cst_2, val_main_v48, val_main_v49, val_main_cst_3, val_main_v50, val_main_v51, val_main_v52, val_main_v53, val_main_v54,
    val_main_v55, val_main_v56, val_main_v57, val_main_v58]
    simp only [hy]
    blk_point [iblk, V, e0, e1, e2, e3, e4, e5, e6, e7, e8, e9, e10, h0, h1]
  · have hy : ∀ k, mergedUpper m c t (ix2 (y 0) k) = val_main_v39 (F := Ideal) (m ((c : Thread nD τ).loc main_arg0)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7))
        (ix2 ⟨1024 * (grid0.coords t 0).val + (y 0).val, by omega⟩ k) :=
      fun k => mergedUpper_apply m c t (ix2 (y 0) k) _ rfl
    change k0_pay1 (k0_pay8 (mergedUpper m c t) _) _ _ (k0_pay10 (mergedUpper m c t) _) y = _
    pointwise [k0_pay1, k0_pay8, k0_pay9, k0_pay10, val_main_v40, val_main_v41, val_main_v42, val_main_v43, val_main_v44, val_main_v45, val_main_cst_1, val_main_v46, val_main_v47,
    val_main_cst_2, val_main_v48, val_main_v49, val_main_cst_3, val_main_v50, val_main_v51, val_main_v52, val_main_v53, val_main_v54,
    val_main_v55, val_main_v56, val_main_v57, val_main_v58]
    simp only [hy]
    blk_point [iblk, V, e0, e1, e2, e3, e4, e5, e6, e7, e8, e9, e10, h0, h1]

end Cert.Merge

end
-- ==== Proof.MergeClaims.lean ====
/- The claims about the gated merge: the frames, and that kernel and reference leave the same array. -/
module

public import proofs.«01_k».proof.Defs
public import proofs.«01_k».proof.Proof.Merge
public import proofs.«01_k».proof.Proof.Gen.Kernel3.Frame
public import proofs.«01_k».proof.Proof.Gen.Reference3Ideal.Run
public import Idealize.ShloMosaic.Lib.Quiescent

@[expose] public section

set_option maxRecDepth 16384

noncomputable section

namespace Cert.Merge

open Cert.Kernel3Ideal Cert.Kernel3Ideal.Gen Cert.Reference3Ideal.Read Idealize.ShloMosaic Idealize.ShloMosaic.TcCoe Idealize.SL.Sem

theorem frameReference : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Both programs leave the array that the reference's operations compute from the arguments. -/
theorem algebraic : Cert.algebraic_Kernel3Ideal_Reference3Ideal := by
  intro m g m' g' _ hagree
  refine ⟨fun c => val_main_v58 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)), ?_, ?_⟩
  · exact (θ_run Cert.Kernel3Ideal.defs _ _).mono (fun r h c => ⟨(h c).1.trans (value m c), (h c).2⟩)
      (Cert.Kernel3Ideal.Value.run_blocks (F := Ideal) m g)
  · refine (θ_run Cert.Reference3Ideal.defs _ _).mono (fun r h c => ⟨(h c).1.trans ?_, (h c).2⟩)
      (Cert.Reference3Ideal.Value.run (F := Ideal) m' g')
    obtain ⟨e0, e1, e2, e3, e4, e5, e6, e7, e8, e9⟩ := hagree c
    rw [val_main_v58_eq, e0, e1, e2, e3, e4, e5, e6, e7, e8, e9]

end Cert.Merge

end
-- ==== Proof.Shortconv.lean ====
/- The gated short convolution, index by index: the array that the kernel leaves is the reference's. -/
module

public import proofs.«01_k».proof.Proof.Gen.Kernel4Ideal.Value
public import proofs.«01_k».proof.Proof.Gen.Reference4Ideal.Read
public import Idealize.ShloMosaic.Lib.Pipeline.ValueKit

@[expose] public section

set_option maxRecDepth 16384
set_option maxHeartbeats 2000000

noncomputable section

namespace Cert.Shortconv

open Cert.Kernel4Ideal Cert.Kernel4Ideal.Gen Cert.Reference4Ideal.Read Idealize.ShloMosaic Idealize.ShloMosaic.TcCoe Idealize.SL.Sem

variable (m : (ℓ : Loc nD τ sig) → Buf (Elt Ideal) ℓ)

/-- Which block each window stages at a grid point. -/
theorem idx : ∀ t : Fin cfg0.N, (win0_0.index t = ![(grid0.coords t 1).val, 0, 0] ∧ win0_1.index t = ![0, 0, 12 + (grid0.coords t 0).val]
    ∧ win0_2.index t = ![0, 0, 14 + (grid0.coords t 0).val] ∧ win0_3.index t = ![0, 0, 16 + (grid0.coords t 0).val])
    ∧ win0_4.index t = ![0, 0, (grid0.coords t 0).val] ∧ win0_5.index t = ![(grid0.coords t 1).val, 0, (grid0.coords t 0).val]
    ∧ (grid0.coords t 0).val < 2 ∧ (grid0.coords t 1).val < 8 :=
  (by decide +kernel : ∀ t : Fin grid0.N, (win0_0.index t = ![(grid0.coords t 1).val, 0, 0] ∧ win0_1.index t = ![0, 0, 12 + (grid0.coords t 0).val]
    ∧ win0_2.index t = ![0, 0, 14 + (grid0.coords t 0).val] ∧ win0_3.index t = ![0, 0, 16 + (grid0.coords t 0).val])
    ∧ win0_4.index t = ![0, 0, (grid0.coords t 0).val] ∧ win0_5.index t = ![(grid0.coords t 1).val, 0, (grid0.coords t 0).val]
    ∧ (grid0.coords t 0).val < 2 ∧ (grid0.coords t 1).val < 8)

/-- The reference's padding is the real zero. -/
theorem pad_zero : FloatOps.sitofp (F := Ideal) FTy.f32 (0#32) = (0 : EReal) := by
  change (((0#32).toInt : ℝ) : EReal) = 0
  simp

theorem value (c : Dev nD) :
    (dats m 0 c).arrAt 5 cfg0.N = Cert.Reference4Ideal.Read.val_main_v33 (F := Ideal) (m ((c : Thread nD τ).loc main_arg0))
      (m ((c : Thread nD τ).loc main_arg1)) (m ((c : Thread nD τ).loc main_arg2)) := by
  refine (dats m 0 c).arrAt_eq_of_covers 5 _ (by decide +kernel) fun t hf z => ?_
  obtain ⟨⟨e0, e1, e2, e3⟩, e4, e5, ht, ht'⟩ := idx t
  blk_simp
  rw [after0_5]
  unfold_out out0_5
  canon_tiles y h
  · have hr : (((View.whole main_v0).slice (win0_5.rect t)).emb z 1).val = (z 1).val := by
      blk_simp [e5]
    rw [h1] at hr
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35,
    val_main_v0, val_main_v1, val_main_v2, val_main_v3, val_main_v4, val_main_v5, val_main_v6, val_main_v7, val_main_v8, val_main_v9, val_main_v10,
    val_main_c, val_main_call0_v0, val_main_v11, val_main_v12, val_main_v13, val_main_v14, val_main_v15, val_main_v16, val_main_v17, val_main_v18,
    val_main_v19, val_main_v20, val_main_v21, val_main_v22, val_main_v23, val_main_v24, val_main_v25, val_main_v26, val_main_v27, val_main_v28,
    val_main_v29, val_main_v30, val_main_v31, val_main_v32, val_main_v33]
    by_cases hy : (y 1).val = 511
    · simp (disch := omega) only [dif_pos, dif_neg]
      simp only [pad_zero]
      blk_point [iblk, V, e0, e1, e2, e3, e4, e5, h0, h1, h2, hr]
    · simp (disch := omega) only [dif_pos, dif_neg]
      blk_point [iblk, V, e0, e1, e2, e3, e4, e5, h0, h1, h2, hr]
  · have hr : (((View.whole main_v0).slice (win0_5.rect t)).emb z 1).val = (z 1).val := by
      blk_simp [e5]
    rw [h1] at hr
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35,
    val_main_v0, val_main_v1, val_main_v2, val_main_v3, val_main_v4, val_main_v5, val_main_v6, val_main_v7, val_main_v8, val_main_v9, val_main_v10,
    val_main_c, val_main_call0_v0, val_main_v11, val_main_v12, val_main_v13, val_main_v14, val_main_v15, val_main_v16, val_main_v17, val_main_v18,
    val_main_v19, val_main_v20, val_main_v21, val_main_v22, val_main_v23, val_main_v24, val_main_v25, val_main_v26, val_main_v27, val_main_v28,
    val_main_v29, val_main_v30, val_main_v31, val_main_v32, val_main_v33]
    simp (disch := omega) only [dif_pos, dif_neg]
    blk_point [iblk, V, e0, e1, e2, e3, e4, e5, h0, h1, h2, hr]
  · have hr : (((View.whole main_v0).slice (win0_5.rect t)).emb z 1).val = (z 1).val := by
      blk_simp [e5]
    rw [h1] at hr
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35,
    val_main_v0, val_main_v1, val_main_v2, val_main_v3, val_main_v4, val_main_v5, val_main_v6, val_main_v7, val_main_v8, val_main_v9, val_main_v10,
    val_main_c, val_main_call0_v0, val_main_v11, val_main_v12, val_main_v13, val_main_v14, val_main_v15, val_main_v16, val_main_v17, val_main_v18,
    val_main_v19, val_main_v20, val_main_v21, val_main_v22, val_main_v23, val_main_v24, val_main_v25, val_main_v26, val_main_v27, val_main_v28,
    val_main_v29, val_main_v30, val_main_v31, val_main_v32, val_main_v33]
    simp (disch := omega) only [dif_pos, dif_neg]
    blk_point [iblk, V, e0, e1, e2, e3, e4, e5, h0, h1, h2, hr]
  · have hr : (((View.whole main_v0).slice (win0_5.rect t)).emb z 1).val = (z 1).val := by
      blk_simp [e5]
    rw [h1] at hr
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35,
    val_main_v0, val_main_v1, val_main_v2, val_main_v3, val_main_v4, val_main_v5, val_main_v6, val_main_v7, val_main_v8, val_main_v9, val_main_v10,
    val_main_c, val_main_call0_v0, val_main_v11, val_main_v12, val_main_v13, val_main_v14, val_main_v15, val_main_v16, val_main_v17, val_main_v18,
    val_main_v19, val_main_v20, val_main_v21, val_main_v22, val_main_v23, val_main_v24, val_main_v25, val_main_v26, val_main_v27, val_main_v28,
    val_main_v29, val_main_v30, val_main_v31, val_main_v32, val_main_v33]
    by_cases hy : (y 1).val = 0
    · simp (disch := omega) only [dif_pos, dif_neg]
      simp only [pad_zero]
      blk_point [iblk, V, e0, e1, e2, e3, e4, e5, h0, h1, h2, hr]
    · simp (disch := omega) only [dif_pos, dif_neg]
      blk_point [iblk, V, e0, e1, e2, e3, e4, e5, h0, h1, h2, hr]

end Cert.Shortconv

end
-- ==== Proof.ShortconvClaims.lean ====
/- The claims about the short convolution: the frames, and that kernel and reference leave the same array. -/
module

public import proofs.«01_k».proof.Defs
public import proofs.«01_k».proof.Proof.Shortconv
public import proofs.«01_k».proof.Proof.Gen.Kernel4.Frame
public import proofs.«01_k».proof.Proof.Gen.Reference4Ideal.Run
public import Idealize.ShloMosaic.Lib.Quiescent

@[expose] public section

set_option maxRecDepth 16384

noncomputable section

namespace Cert.Shortconv

open Cert.Kernel4Ideal Cert.Kernel4Ideal.Gen Cert.Reference4Ideal.Read Idealize.ShloMosaic Idealize.ShloMosaic.TcCoe Idealize.SL.Sem

theorem frameReference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Both programs leave the array that the reference's operations compute from the arguments. -/
theorem algebraic : Cert.algebraic_Kernel4Ideal_Reference4Ideal := by
  intro m g m' g' _ hagree
  refine ⟨fun c => val_main_v33 (F := Ideal) (m ((c : Thread nD τ).loc main_arg0)) (m ((c : Thread nD τ).loc main_arg1)) (m ((c : Thread nD τ).loc main_arg2)), ?_, ?_⟩
  · exact (θ_run Cert.Kernel4Ideal.defs _ _).mono (fun r h c => ⟨(h c).1.trans (value m c), (h c).2⟩)
      (Cert.Kernel4Ideal.Value.run_blocks (F := Ideal) m g)
  · refine (θ_run Cert.Reference4Ideal.defs _ _).mono (fun r h c => ⟨(h c).1.trans ?_, (h c).2⟩)
      (Cert.Reference4Ideal.Value.run (F := Ideal) m' g')
    obtain ⟨e0, e1, e2⟩ := hagree c
    rw [val_main_v33_eq, e0, e1, e2]

end Cert.Shortconv

end
-- ==== Proof.Residual.lean ====
/- The last residual addition, index by index: the array that the kernel leaves is the reference's. -/
module

public import proofs.«01_k».proof.Proof.Gen.Kernel5Ideal.Value
public import proofs.«01_k».proof.Proof.Gen.Reference5Ideal.Read
public import Idealize.ShloMosaic.Lib.Pipeline.ValueKit

@[expose] public section

set_option maxRecDepth 16384

noncomputable section

namespace Cert.Residual

open Cert.Kernel5Ideal Cert.Kernel5Ideal.Gen Cert.Reference5Ideal.Read Idealize.ShloMosaic Idealize.ShloMosaic.TcCoe Idealize.SL.Sem

variable (m : (ℓ : Loc nD τ sig) → Buf (Elt Ideal) ℓ)

/-- Which block each window stages at a grid point. -/
theorem idx : ∀ t : Fin cfg0.N, win0_0.index t = ![(grid0.coords t 0).val, 0] ∧ win0_1.index t = ![(grid0.coords t 0).val, 0]
    ∧ win0_2.index t = ![11, 0, 0] ∧ win0_3.index t = ![(grid0.coords t 0).val, 0] ∧ (grid0.coords t 0).val < 16 :=
  (by decide +kernel : ∀ t : Fin grid0.N, win0_0.index t = ![(grid0.coords t 0).val, 0] ∧ win0_1.index t = ![(grid0.coords t 0).val, 0]
    ∧ win0_2.index t = ![11, 0, 0] ∧ win0_3.index t = ![(grid0.coords t 0).val, 0] ∧ (grid0.coords t 0).val < 16)

theorem value (c : Dev nD) :
    (dats m 0 c).arrAt 3 cfg0.N = Cert.Reference5Ideal.Read.val_main_v16 (F := Ideal) (m ((c : Thread nD τ).loc main_arg0))
      (m ((c : Thread nD τ).loc main_arg1)) (m ((c : Thread nD τ).loc main_arg2)) := by
  refine (dats m 0 c).arrAt_eq_of_covers 3 _ (by decide +kernel) fun t hf y => ?_
  obtain ⟨e0, e1, e2, e3, ht⟩ := idx t
  blk_simp
  rw [after0_3]
  frame_out
  pointwise [k0_pay1, val_main_v0, val_main_v1, val_main_v2, val_main_v3, val_main_cst, val_main_v4, val_main_v5, val_main_cst_0, val_main_v6, val_main_v7, val_main_cst_1,
    val_main_v8, val_main_v9, val_main_v10, val_main_v11, val_main_v12, val_main_v13, val_main_v14, val_main_v15, val_main_v16]
  blk_point [iblk, V, e0, e1, e2, e3]
end Cert.Residual

end
-- ==== Proof.ResidualClaims.lean ====
/- The claims about the last residual addition: the frames, and that kernel and reference leave the same array. -/
module

public import proofs.«01_k».proof.Defs
public import proofs.«01_k».proof.Proof.Residual
public import proofs.«01_k».proof.Proof.Gen.Kernel5.Frame
public import proofs.«01_k».proof.Proof.Gen.Reference5Ideal.Run
public import Idealize.ShloMosaic.Lib.Quiescent

@[expose] public section

set_option maxRecDepth 16384

noncomputable section

namespace Cert.Residual

open Cert.Kernel5Ideal Cert.Kernel5Ideal.Gen Cert.Reference5Ideal.Read Idealize.ShloMosaic Idealize.ShloMosaic.TcCoe Idealize.SL.Sem

theorem frameReference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- Both programs leave the array that the reference's operations compute from the arguments. -/
theorem algebraic : Cert.algebraic_Kernel5Ideal_Reference5Ideal := by
  intro m g m' g' _ hagree
  refine ⟨fun c => val_main_v16 (F := Ideal) (m ((c : Thread nD τ).loc main_arg0)) (m ((c : Thread nD τ).loc main_arg1)) (m ((c : Thread nD τ).loc main_arg2)), ?_, ?_⟩
  · exact (θ_run Cert.Kernel5Ideal.defs _ _).mono (fun r h c => ⟨(h c).1.trans (value m c), (h c).2⟩)
      (Cert.Kernel5Ideal.Value.run_blocks (F := Ideal) m g)
  · refine (θ_run Cert.Reference5Ideal.defs _ _).mono (fun r h c => ⟨(h c).1.trans ?_, (h c).2⟩)
      (Cert.Reference5Ideal.Value.run (F := Ideal) m' g')
    obtain ⟨e0, e1, e2⟩ := hagree c
    rw [val_main_v16_eq, e0, e1, e2]

end Cert.Residual

end
-- ==== Proof.MemKv.lean ====
/- The projection of the memory's keys and values, index by index: the array that the kernel leaves is the reference's. -/
module

public import proofs.«01_k».proof.Proof.Gen.Kernel6Ideal.Value
public import proofs.«01_k».proof.Proof.Gen.Reference6Ideal.Read
public import Idealize.ShloMosaic.Lib.Pipeline.ValueKit

@[expose] public section

set_option maxRecDepth 16384

noncomputable section

namespace Cert.MemKv

open Cert.Kernel6Ideal Cert.Kernel6Ideal.Gen Cert.Reference6Ideal.Read Idealize.ShloMosaic Idealize.ShloMosaic.TcCoe Idealize.SL.Sem

variable (m : (ℓ : Loc nD τ sig) → Buf (Elt Ideal) ℓ)

/-- Which block each window stages at a grid point. -/
theorem idx : ∀ t : Fin cfg0.N, win0_0.index t = ![(grid0.coords t 0).val, 0, 0] ∧ win0_1.index t = ![0, 0, 0]
    ∧ win0_2.index t = ![0, 0] ∧ win0_3.index t = ![(grid0.coords t 0).val, 0, 0] ∧ (grid0.coords t 0).val < 8 :=
  (by decide +kernel : ∀ t : Fin grid0.N, win0_0.index t = ![(grid0.coords t 0).val, 0, 0] ∧ win0_1.index t = ![0, 0, 0]
    ∧ win0_2.index t = ![0, 0] ∧ win0_3.index t = ![(grid0.coords t 0).val, 0, 0] ∧ (grid0.coords t 0).val < 8)

theorem value (c : Dev nD) :
    (dats m 0 c).arrAt 3 cfg0.N = Cert.Reference6Ideal.Read.val_main_v18 (F := Ideal) (m ((c : Thread nD τ).loc main_arg0))
      (m ((c : Thread nD τ).loc main_arg1)) (m ((c : Thread nD τ).loc main_arg2)) := by
  refine (dats m 0 c).arrAt_eq_of_covers 3 _ (by decide +kernel) fun t hf y => ?_
  obtain ⟨e0, e1, e2, e3, ht⟩ := idx t
  blk_simp
  rw [after0_3]
  frame_out
  pointwise [k0_pay1, val_main_v0, val_main_v1, val_main_v2, val_main_cst, val_main_v3, val_main_v4, val_main_cst_0, val_main_v5, val_main_v6, val_main_cst_1, val_main_v7,
    val_main_v8, val_main_v9, val_main_v10, val_main_v11, val_main_v12, val_main_v13, val_main_v14, val_main_v15, val_main_v16, val_main_v17, val_main_v18]
  blk_point [iblk, V, e0, e1, e2, e3]
end Cert.MemKv

end
-- ==== Proof.MemKvClaims.lean ====
/- The claims about the memory's keys and values: the frames, and that kernel and reference leave the same array. -/
module

public import proofs.«01_k».proof.Defs
public import proofs.«01_k».proof.Proof.MemKv
public import proofs.«01_k».proof.Proof.Gen.Kernel6.Frame
public import proofs.«01_k».proof.Proof.Gen.Reference6Ideal.Run
public import Idealize.ShloMosaic.Lib.Quiescent

@[expose] public section

set_option maxRecDepth 16384

noncomputable section

namespace Cert.MemKv

open Cert.Kernel6Ideal Cert.Kernel6Ideal.Gen Cert.Reference6Ideal.Read Idealize.ShloMosaic Idealize.ShloMosaic.TcCoe Idealize.SL.Sem

theorem frameReference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- Both programs leave the array that the reference's operations compute from the arguments. -/
theorem algebraic : Cert.algebraic_Kernel6Ideal_Reference6Ideal := by
  intro m g m' g' _ hagree
  refine ⟨fun c => val_main_v18 (F := Ideal) (m ((c : Thread nD τ).loc main_arg0)) (m ((c : Thread nD τ).loc main_arg1)) (m ((c : Thread nD τ).loc main_arg2)), ?_, ?_⟩
  · exact (θ_run Cert.Kernel6Ideal.defs _ _).mono (fun r h c => ⟨(h c).1.trans (value m c), (h c).2⟩)
      (Cert.Kernel6Ideal.Value.run_blocks (F := Ideal) m g)
  · refine (θ_run Cert.Reference6Ideal.defs _ _).mono (fun r h c => ⟨(h c).1.trans ?_, (h c).2⟩)
      (Cert.Reference6Ideal.Value.run (F := Ideal) m' g')
    obtain ⟨e0, e1, e2⟩ := hagree c
    rw [val_main_v18_eq, e0, e1, e2]

end Cert.MemKv

end
-- ==== Proof.ResidualNorm.lean ====
/- The residual addition between the layers and the norm after it, index by index: the arrays that the kernel leaves
   are the reference's. -/
module

public import proofs.«01_k».proof.Proof.Gen.Kernel7Ideal.Value
public import proofs.«01_k».proof.Proof.Gen.Reference7Ideal.Read
public import Idealize.ShloMosaic.Lib.Pipeline.ValueKit

@[expose] public section

set_option maxRecDepth 16384

noncomputable section

namespace Cert.ResidualNorm

open Cert.Kernel7Ideal Cert.Kernel7Ideal.Gen Cert.Reference7Ideal.Read Idealize.ShloMosaic Idealize.ShloMosaic.TcCoe Idealize.SL.Sem

variable (m : (ℓ : Loc nD τ sig) → Buf (Elt Ideal) ℓ)

/-- Which block each window stages at a grid point. -/
theorem idx : ∀ t : Fin cfg0.N, win0_0.index t = ![(grid0.coords t 0).val, 0] ∧ win0_1.index t = ![(grid0.coords t 0).val, 0] ∧ win0_2.index t = ![5, 0, 0]
    ∧ win0_3.index t = ![6, 0, 0] ∧ win0_4.index t = ![(grid0.coords t 0).val, 0] ∧ win0_5.index t = ![(grid0.coords t 0).val, 0] ∧ (grid0.coords t 0).val < 16 :=
  (by decide +kernel : ∀ t : Fin grid0.N, win0_0.index t = ![(grid0.coords t 0).val, 0] ∧ win0_1.index t = ![(grid0.coords t 0).val, 0] ∧ win0_2.index t = ![5, 0, 0]
    ∧ win0_3.index t = ![6, 0, 0] ∧ win0_4.index t = ![(grid0.coords t 0).val, 0] ∧ win0_5.index t = ![(grid0.coords t 0).val, 0] ∧ (grid0.coords t 0).val < 16)

/-- The residual stream. -/
theorem value_rows (c : Dev nD) :
    (dats m 0 c).arrAt 4 cfg0.N = val_main_v16 (F := Ideal) (m ((c : Thread nD τ).loc main_arg0))
      (m ((c : Thread nD τ).loc main_arg1)) (m ((c : Thread nD τ).loc main_arg2)) := by
  refine (dats m 0 c).arrAt_eq_of_covers 4 _ (by decide +kernel) fun t hf y => ?_
  obtain ⟨e0, e1, e2, e3, e4, e5, ht⟩ := idx t
  blk_simp
  rw [after0_4]
  frame_out
  pointwise [k0_pay1, val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_cst_0, val_main_cst_1]
  blk_point [iblk, V, e0, e1, e2, e3, e4, e5]

/-- The norm that the next layer reads. -/
theorem value_normed (c : Dev nD) :
    (dats m 0 c).arrAt 5 cfg0.N = val_main_v32 (F := Ideal) (m ((c : Thread nD τ).loc main_arg0))
      (m ((c : Thread nD τ).loc main_arg1)) (m ((c : Thread nD τ).loc main_arg2)) := by
  refine (dats m 0 c).arrAt_eq_of_covers 5 _ (by decide +kernel) fun t hf y => ?_
  obtain ⟨e0, e1, e2, e3, e4, e5, ht⟩ := idx t
  blk_simp
  rw [after0_5]
  frame_out
  pointwise [k0_pay1, k0_pay2, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_cst, val_main_cst_0, val_main_cst_1, val_main_cst_2, val_main_cst_3, val_main_cst_4]
  blk_point [iblk, V, e0, e1, e2, e3, e4, e5]

end Cert.ResidualNorm

end
-- ==== Proof.ResidualNormClaims.lean ====
/- The claims about the residual addition between the layers: the frames, and that kernel and reference leave the same
   two arrays. -/
module

public import proofs.«01_k».proof.Defs
public import proofs.«01_k».proof.Proof.ResidualNorm
public import proofs.«01_k».proof.Proof.Gen.Kernel7.Frame
public import proofs.«01_k».proof.Proof.Gen.Reference7Ideal.Run
public import Idealize.ShloMosaic.Lib.Quiescent

@[expose] public section

set_option maxRecDepth 16384

noncomputable section

namespace Cert.ResidualNorm

open Cert.Kernel7Ideal Cert.Kernel7Ideal.Gen Cert.Reference7Ideal.Read Idealize.ShloMosaic Idealize.ShloMosaic.TcCoe Idealize.SL.Sem

theorem frameReference : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- Both programs leave the two arrays that the reference's operations compute from the arguments. -/
theorem algebraic : Cert.algebraic_Kernel7Ideal_Reference7Ideal := by
  intro m g m' g' _ hagree
  refine ⟨fun c => val_main_v16 (F := Ideal) (m ((c : Thread nD τ).loc main_arg0)) (m ((c : Thread nD τ).loc main_arg1)) (m ((c : Thread nD τ).loc main_arg2)),
      fun c => val_main_v32 (F := Ideal) (m ((c : Thread nD τ).loc main_arg0)) (m ((c : Thread nD τ).loc main_arg1)) (m ((c : Thread nD τ).loc main_arg2)), ?_, ?_⟩
  · exact (θ_run Cert.Kernel7Ideal.defs _ _).mono
      (fun r h c => ⟨(h c).1.trans (value_rows m c), (h c).2.1.trans (value_normed m c), (h c).2.2⟩)
      (Cert.Kernel7Ideal.Value.run_blocks (F := Ideal) m g)
  · refine (θ_run Cert.Reference7Ideal.defs _ _).mono (fun r h c => ⟨(h c).1.trans ?_, (h c).2.1.trans ?_, (h c).2.2⟩)
      (Cert.Reference7Ideal.Value.run (F := Ideal) m' g')
    · obtain ⟨e0, e1, e2⟩ := hagree c
      rw [val_main_v16_eq, e0, e1, e2]
    · obtain ⟨e0, e1, e2⟩ := hagree c
      rw [val_main_v32_eq, e0, e1, e2]

end Cert.ResidualNorm

end
-- ==== Proof.Prenorm.lean ====
/- The first norm, index by index: the array that the kernel leaves is the reference's. -/
module

public import proofs.«01_k».proof.Proof.Gen.Kernel8Ideal.Value
public import proofs.«01_k».proof.Proof.Gen.Reference8Ideal.Read
public import Idealize.ShloMosaic.Lib.Pipeline.ValueKit

@[expose] public section

set_option maxRecDepth 16384

noncomputable section

namespace Cert.Prenorm

open Cert.Kernel8Ideal Cert.Kernel8Ideal.Gen Cert.Reference8Ideal.Read Idealize.ShloMosaic Idealize.ShloMosaic.TcCoe Idealize.SL.Sem

variable (m : (ℓ : Loc nD τ sig) → Buf (Elt Ideal) ℓ)

/-- Which block each window stages at a grid point. -/
theorem idx : ∀ t : Fin cfg0.N, win0_0.index t = ![(grid0.coords t 0).val, 0] ∧ win0_1.index t = ![0, 0, 0] ∧ win0_2.index t = ![(grid0.coords t 0).val, 0] ∧ (grid0.coords t 0).val < 16 :=
  (by decide +kernel : ∀ t : Fin grid0.N, win0_0.index t = ![(grid0.coords t 0).val, 0] ∧ win0_1.index t = ![0, 0, 0] ∧ win0_2.index t = ![(grid0.coords t 0).val, 0] ∧ (grid0.coords t 0).val < 16)

/-- The normed rows. -/
theorem value (c : Dev nD) :
    (dats m 0 c).arrAt 2 cfg0.N = val_main_v15 (F := Ideal) (m ((c : Thread nD τ).loc main_arg0)) (m ((c : Thread nD τ).loc main_arg1)) := by
  refine (dats m 0 c).arrAt_eq_of_covers 2 _ (by decide +kernel) fun t hf y => ?_
  obtain ⟨e0, e1, e2, ht⟩ := idx t
  blk_simp
  rw [after0_2]
  frame_out
  pointwise [k0_pay1, val_main_v0, val_main_v1, val_main_v2, val_main_v3, val_main_v4, val_main_v5, val_main_v6, val_main_v7, val_main_v8, val_main_v9, val_main_v10, val_main_v11, val_main_v12, val_main_v13, val_main_v14, val_main_v15, val_main_cst, val_main_cst_0, val_main_cst_1]
  blk_point [iblk, V, e0, e1, e2]

end Cert.Prenorm

end
-- ==== Proof.PrenormClaims.lean ====
/- The claims about the first norm: the frames, and that kernel and reference leave the same array. -/
module

public import proofs.«01_k».proof.Defs
public import proofs.«01_k».proof.Proof.Prenorm
public import proofs.«01_k».proof.Proof.Gen.Kernel8.Frame
public import proofs.«01_k».proof.Proof.Gen.Reference8Ideal.Run
public import Idealize.ShloMosaic.Lib.Quiescent

@[expose] public section

set_option maxRecDepth 16384

noncomputable section

namespace Cert.Prenorm

open Cert.Kernel8Ideal Cert.Kernel8Ideal.Gen Cert.Reference8Ideal.Read Idealize.ShloMosaic Idealize.ShloMosaic.TcCoe Idealize.SL.Sem

theorem frameReference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- Both programs leave the array that the reference's operations compute from the arguments. -/
theorem algebraic : Cert.algebraic_Kernel8Ideal_Reference8Ideal := by
  intro m g m' g' _ hagree
  refine ⟨fun c => val_main_v15 (F := Ideal) (m ((c : Thread nD τ).loc main_arg0)) (m ((c : Thread nD τ).loc main_arg1)), ?_, ?_⟩
  · exact (θ_run Cert.Kernel8Ideal.defs _ _).mono (fun r h c => ⟨(h c).1.trans (value m c), (h c).2⟩)
      (Cert.Kernel8Ideal.Value.run_blocks (F := Ideal) m g)
  · refine (θ_run Cert.Reference8Ideal.defs _ _).mono (fun r h c => ⟨(h c).1.trans ?_, (h c).2⟩)
      (Cert.Reference8Ideal.Value.run (F := Ideal) m' g')
    obtain ⟨e0, e1⟩ := hagree c
    rw [val_main_v15_eq, e0, e1]

end Cert.Prenorm

end
-- ==== Proof.FilterReference.lean ====
/- The filters as the reference has them, read at one tap and one channel. -/
module

public import proofs.«01_k».proof.Proof.Gen.Reference9Ideal.Read
public import Idealize.ShloMosaic.Lib.Pipeline.ValueKit

@[expose] public section

set_option maxRecDepth 16384
set_option maxHeartbeats 2000000

noncomputable section

namespace Cert.Filters

open Cert.Reference9Ideal Cert.Reference9Ideal.Read Idealize.ShloMosaic Idealize.ShloMosaic.TcCoe Idealize.SL.Sem

variable (W1 : Vec Ideal S2x33x64 .f32) (B1 : Vec Ideal S2x64 .f32) (W2 : Vec Ideal S2x64x64 .f32) (B2 : Vec Ideal S2x64 .f32)
  (W3 : Vec Ideal S2x64x2048 .f32) (Q : Vec Ideal S2x2x64 .f32)

/-- The exponential decay of a tap in a channel. -/
def decay (p : Fin 2048) (ch : Fin 512) : EReal :=
  Ideal.exp (val_main_v56 (F := Ideal) (ix2 p 0) * val_main_v57 (F := Ideal) (ix2 0 ch))

/-- A tap of a filter: the last layer's sum, decayed. -/
def tapAt (p : Fin 2048) (col : Fin 2048) (ch : Fin 512) : EReal :=
  (∑ k : Fin 64, val_main_v51 (F := Ideal) W1 B1 W2 B2 Q (ix2 p k) * W3 (ix3 0 k col)) * decay p ch

/-- A tap of a forward filter. -/
theorem forward_read (p : Fin 2048) (o : Fin 2) (ch : Fin 512) :
    val_main_v66 (F := Ideal) W1 B1 W2 B2 W3 Q (ix3 p o ch) = tapAt W1 B1 W2 B2 W3 Q p ⟨o.val * 512 + ch.val, by omega⟩ ch := by
  unfold tapAt decay val_main_v66 val_main_v65 val_main_v64 val_main_v63 val_main_v62 val_main_v61 val_main_v60 val_main_v59 val_main_v58 val_main_v53 val_main_v52
    val_main_v9 val_main_v8
  generalize val_main_v51 (F := Ideal) W1 B1 W2 B2 Q = h
  generalize val_main_v56 (F := Ideal) = t
  generalize val_main_v57 (F := Ideal) = d
  pointwise []

/-- A tap of a backward filter. -/
theorem backward_read (p : Fin 2048) (o : Fin 2) (ch : Fin 512) :
    val_main_v68 (F := Ideal) W1 B1 W2 B2 W3 Q (ix3 p o ch) = tapAt W1 B1 W2 B2 W3 Q p ⟨1024 + (o.val * 512 + ch.val), by omega⟩ ch := by
  unfold tapAt decay val_main_v68 val_main_v67 val_main_v64 val_main_v63 val_main_v62 val_main_v61 val_main_v60 val_main_v59 val_main_v58 val_main_v53 val_main_v52
    val_main_v9 val_main_v8
  generalize val_main_v51 (F := Ideal) W1 B1 W2 B2 Q = h
  generalize val_main_v56 (F := Ideal) = t
  generalize val_main_v57 (F := Ideal) = d
  pointwise [Nat.add_assoc]

/-- The backward filter without its first tap. -/
theorem masked_read (p : Fin 2048) (o : Fin 2) (ch : Fin 512) :
    val_main_v71 (F := Ideal) W1 B1 W2 B2 W3 Q (ix3 p o ch)
      = if p.val = 0 then 0 else tapAt W1 B1 W2 B2 W3 Q p ⟨1024 + (o.val * 512 + ch.val), by omega⟩ ch := by
  rw [← backward_read]
  unfold val_main_v71 val_main_v70 val_main_v69
  generalize val_main_v68 (F := Ideal) W1 B1 W2 B2 W3 Q = b
  by_cases hp : p.val = 0
  · rw [if_pos hp]
    pointwise [val_main_cst_6, hp]
  · rw [if_neg hp]
    pointwise [val_main_cst_6, hp]
    rw [dif_neg (by omega)]
    exact congrArg (fun q => b (ix3 q o ch)) (Fin.ext (by show 1 + (p.val - 1) = p.val; omega))

/-- The sums of the two filters, in the order of the result's rows. -/
theorem sums_read (r : Fin 2048) (x : Fin 1024) (p : Fin 2048) (o : Fin 2) (ch : Fin 512) (hp : p.val = 4 * (r.val % 512) + r.val / 512)
    (hx : x.val = o.val * 512 + ch.val) : val_main_v76 (F := Ideal) W1 B1 W2 B2 W3 Q (ix2 r x)
      = val_main_v66 (F := Ideal) W1 B1 W2 B2 W3 Q (ix3 p o ch) + val_main_v71 (F := Ideal) W1 B1 W2 B2 W3 Q (ix3 p o ch) := by
  have hi : idx_main_v73 (idx_main_v74 (idx_main_v75 (ix2 r x))) = ix3 p o ch := funext fun a => Fin.ext (by
    match a with
    | ⟨0, _⟩ =>
      show (((r.val * 1024 + x.val) / 1024 % 512 * 4 + (r.val * 1024 + x.val) / 524288) * 1024 + (r.val * 1024 + x.val) % 1024) / 1024 = p.val
      have h1 : (r.val * 1024 + x.val) / 1024 = r.val := by omega
      have h2 : (r.val * 1024 + x.val) / 524288 = r.val / 512 := by omega
      rw [h1, h2, hp]
      omega
    | ⟨1, _⟩ =>
      show (((r.val * 1024 + x.val) / 1024 % 512 * 4 + (r.val * 1024 + x.val) / 524288) * 1024 + (r.val * 1024 + x.val) % 1024) / 512 % 2 = o.val
      omega
    | ⟨2, _⟩ =>
      show (((r.val * 1024 + x.val) / 1024 % 512 * 4 + (r.val * 1024 + x.val) / 524288) * 1024 + (r.val * 1024 + x.val) % 1024) % 512 = ch.val
      omega)
  rw [val_main_v76_apply, val_main_v75_apply, val_main_v74_apply, val_main_v73_apply, val_main_v72_apply, hi]
  rfl

/-- The differences of the two filters, in the order of the result's rows. -/
theorem differences_read (r : Fin 2048) (x : Fin 1024) (p : Fin 2048) (o : Fin 2) (ch : Fin 512) (hp : p.val = 4 * (r.val % 512) + r.val / 512)
    (hx : x.val = o.val * 512 + ch.val) : val_main_v81 (F := Ideal) W1 B1 W2 B2 W3 Q (ix2 r x)
      = val_main_v71 (F := Ideal) W1 B1 W2 B2 W3 Q (ix3 p o ch) - val_main_v66 (F := Ideal) W1 B1 W2 B2 W3 Q (ix3 p o ch) := by
  have hi : idx_main_v78 (idx_main_v79 (idx_main_v80 (ix2 r x))) = ix3 p o ch := funext fun a => Fin.ext (by
    match a with
    | ⟨0, _⟩ =>
      show (((r.val * 1024 + x.val) / 1024 % 512 * 4 + (r.val * 1024 + x.val) / 524288) * 1024 + (r.val * 1024 + x.val) % 1024) / 1024 = p.val
      have h1 : (r.val * 1024 + x.val) / 1024 = r.val := by omega
      have h2 : (r.val * 1024 + x.val) / 524288 = r.val / 512 := by omega
      rw [h1, h2, hp]
      omega
    | ⟨1, _⟩ =>
      show (((r.val * 1024 + x.val) / 1024 % 512 * 4 + (r.val * 1024 + x.val) / 524288) * 1024 + (r.val * 1024 + x.val) % 1024) / 512 % 2 = o.val
      omega
    | ⟨2, _⟩ =>
      show (((r.val * 1024 + x.val) / 1024 % 512 * 4 + (r.val * 1024 + x.val) / 524288) * 1024 + (r.val * 1024 + x.val) % 1024) % 512 = ch.val
      omega)
  rw [val_main_v81_apply, val_main_v80_apply, val_main_v79_apply, val_main_v78_apply, val_main_v77_apply, hi]
  rfl

end Cert.Filters

end
-- ==== Proof.FilterRows.lean ====
/- The body of the kernel, entry by entry: the hidden layers, the products in two halves of their precision, and the decay. -/
module

public import proofs.«01_k».proof.Proof.Gen.Kernel9Ideal.Frame
public import proofs.«01_k».proof.Proof.FilterReference
public import proofs.«01_k».proof.Proof.RealSums
public import Idealize.ShloMosaic.Lib.Pipeline.ValueKit

@[expose] public section

set_option maxRecDepth 16384
set_option maxHeartbeats 2000000

noncomputable section

namespace Cert.Filters

open Cert.Kernel9Ideal Cert.Kernel9Ideal.Gen Cert.Reference9Ideal.Read Idealize.ShloMosaic Idealize.ShloMosaic.TcCoe Idealize.SL.Sem
open Cert.RealSums

section Block

variable {F : FTy → Type} [FloatOps F]
variable (x0 : Vec F S2048x64 .f32) (x1 : Vec F S1x64x64 .f32) (x2 : Vec F S1x1x64 .f32) (x3 : Vec F S1x64x64 .f32) (x4 : Vec F S1x1x64 .f32)
  (x5 : Vec F S1x64x2048 .f32) (x6 : Vec F S1x2x64 .f32) (x7 : Vec F S2048x1 .f32) (x8 : Vec F S1x512 .f32)

/-- The rows after the two hidden layers. -/
def hiddenOf : FVec F S2048x64 .f32 :=
  k0_pay5 (View.ld x6 r0_0) (View.ld x0 r0_1) (View.ld x1 r0_2) (View.ld x2 r0_3) (View.ld x6 r0_4) (View.ld x3 r0_2) (View.ld x4 r0_3)

/-- The decay of every row in every channel. -/
def decayOf : FVec F S2048x512 .f32 := k0_pay8 (k0_pay6 (View.ld x7 r0_5)) (k0_pay7 (View.ld x8 r0_6))

/-- The products of the rows with the last layer's columns, decayed. -/
def productOf (h : FVec F S2048x64 .f32) (d : FVec F S2048x512 .f32) (w : Vec F S1x64x512 .f32) : FVec F S2048x512 .f32 :=
  k0_pay1 d (k0_pay9 h) (k0_pay10 h) w

/-- The same with the first row at zero. -/
def maskedOf (h : FVec F S2048x64 .f32) (d : FVec F S2048x512 .f32) (w : Vec F S1x64x512 .f32) : FVec F S2048x512 .f32 :=
  select (cmpi .eq (iota .tc S2048x512 32 [0] iota_S2048x512_d0_w32) (broadcast S2048x512 0#32)) (broadcast S2048x512 (Scalar.ofBits .f32 0x00000000#32 : F .f32))
    (productOf h d w)

/-- The sum of a forward and a backward filter. -/
def sumOf (h : FVec F S2048x64 .f32) (d : FVec F S2048x512 .f32) (f b : Vec F S1x64x512 .f32) : FVec F S2048x512 .bf16 :=
  truncf .bf16 (addf (productOf h d f) (maskedOf h d b)) bitsLt_bf16_f32

/-- The difference of a backward and a forward filter. -/
def differenceOf (h : FVec F S2048x64 .f32) (d : FVec F S2048x512 .f32) (f b : Vec F S1x64x512 .f32) : FVec F S2048x512 .bf16 :=
  truncf .bf16 (subf (maskedOf h d b) (productOf h d f)) bitsLt_bf16_f32

/-- The first stored block: the two halves of its columns. -/
theorem out9_eq : out0_9 x0 x1 x2 x3 x4 x5 x6 x7 x8 = View.canon
    [⟨r0_12, sumOf (hiddenOf x0 x1 x2 x3 x4 x6) (decayOf x7 x8) (View.ld x5 r0_10) (View.ld x5 r0_11)⟩,
      ⟨r0_9, sumOf (hiddenOf x0 x1 x2 x3 x4 x6) (decayOf x7 x8) (View.ld x5 r0_7) (View.ld x5 r0_8)⟩] := by
  unfold_out out0_9
  rfl

/-- The second stored block: the two halves of its columns. -/
theorem out10_eq : out0_10 x0 x1 x2 x3 x4 x5 x6 x7 x8 = View.canon
    [⟨r0_12, differenceOf (hiddenOf x0 x1 x2 x3 x4 x6) (decayOf x7 x8) (View.ld x5 r0_10) (View.ld x5 r0_11)⟩,
      ⟨r0_9, differenceOf (hiddenOf x0 x1 x2 x3 x4 x6) (decayOf x7 x8) (View.ld x5 r0_7) (View.ld x5 r0_8)⟩] := by
  unfold_out out0_10
  rfl

end Block

/-- A product in two halves of its precision is the product, where the first factor is not infinite above and the second is real. -/
theorem halves {h w : EReal} (hh : h ≠ ⊤) (hw : IsReal w) : h * w + (h * (w - w) + (h - h) * w) = h * w := by
  obtain ⟨w, rfl⟩ := hw
  have h0 : ((w : ℝ) : EReal) - w = 0 := by rw [← EReal.coe_sub, sub_self, EReal.coe_zero]
  rw [h0, mul_zero, zero_add]
  induction h with
  | bot =>
    have hb : (⊥ : EReal) - ⊥ = ⊥ := rfl
    rw [hb]
    rcases lt_trichotomy w 0 with hw | hw | hw
    · rw [EReal.bot_mul_coe_of_neg hw]; rfl
    · subst hw; simp
    · rw [EReal.bot_mul_coe_of_pos hw]; rfl
  | top => exact absurd rfl hh
  | coe a =>
    have h1 : ((a : ℝ) : EReal) - a = 0 := by rw [← EReal.coe_sub, sub_self, EReal.coe_zero]
    rw [h1, zero_mul, add_zero]

/-- A sine is not infinite above. -/
theorem sin_ne_top (x : EReal) : Ideal.sin x ≠ ⊤ := by
  induction x with
  | bot => exact bot_ne_top
  | top => exact bot_ne_top
  | coe a => exact EReal.coe_ne_top _

variable (h : FVec Ideal S2048x64 .f32) (d : FVec Ideal S2048x512 .f32) (w : Vec Ideal S1x64x512 .f32)

/-- The products at an entry: the plain sum, decayed. -/
theorem product_apply (r : Fin 2048) (ch : Fin 512) (hh : ∀ k, h (ix2 r k) ≠ (⊤ : EReal)) (hw : ∀ k, IsReal (w (ix3 0 k ch))) :
    productOf h d w (ix2 r ch) = (∑ k : Fin 64, h (ix2 r k) * w (ix3 0 k ch)) * d (ix2 r ch) := by
  pointwise [productOf, k0_pay1, k0_pay9, k0_pay10]
  rw [← Finset.sum_add_distrib, ← Finset.sum_add_distrib]
  exact congrArg (· * d (ix2 r ch)) (Finset.sum_congr rfl fun k _ => halves (hh k) (hw k))

/-- The masked products at an entry. -/
theorem masked_apply (r : Fin 2048) (ch : Fin 512) (hh : ∀ k, h (ix2 r k) ≠ (⊤ : EReal)) (hw : ∀ k, IsReal (w (ix3 0 k ch))) :
    maskedOf h d w (ix2 r ch) = if r.val = 0 then 0 else (∑ k : Fin 64, h (ix2 r k) * w (ix3 0 k ch)) * d (ix2 r ch) := by
  rw [← product_apply h d w r ch hh hw]
  unfold maskedOf
  generalize productOf h d w = p
  pointwise []
  by_cases hr : r.val = 0
  · rw [if_pos hr, hr]
    rfl
  · have hn : ¬ BitVec.ofNat 32 r.val = 0#32 := fun e => hr (by
      have e' := congrArg BitVec.toNat e
      rw [BitVec.toNat_ofNat, Nat.mod_eq_of_lt (by omega)] at e'
      exact e')
    rw [if_neg hr]
    have hb : (BitVec.ofNat 32 r.val == 0#32) = false := beq_eq_false_iff_ne.mpr hn
    simp [Scalar.select, IntOp.cmpi, hb]

/-- The decay at an entry. -/
theorem decay_apply (t : Vec Ideal S2048x1 .f32) (g : Vec Ideal S1x512 .f32) (r : Fin 2048) (ch : Fin 512) :
    decayOf t g (ix2 r ch) = Ideal.exp (-t (ix2 r 0) * g (ix2 0 ch)) := by
  pointwise [decayOf, k0_pay8, k0_pay6, k0_pay7]
  rw [zero_sub]

variable (W1 : Vec Ideal Cert.Reference9Ideal.S2x33x64 .f32) (B1 : Vec Ideal Cert.Reference9Ideal.S2x64 .f32) (W2 : Vec Ideal Cert.Reference9Ideal.S2x64x64 .f32)
  (B2 : Vec Ideal Cert.Reference9Ideal.S2x64 .f32) (W3 : Vec Ideal Cert.Reference9Ideal.S2x64x2048 .f32) (Q : Vec Ideal Cert.Reference9Ideal.S2x2x64 .f32)

/-- The two hidden layers of the reference at an entry. -/
theorem layers_apply (p : Fin 2048) (j : Fin 64) : val_main_v51 (F := Ideal) W1 B1 W2 B2 Q (ix2 p j)
    = Ideal.sin (Q (ix3 0 1 j) * ((∑ k : Fin 64, Ideal.sin (Q (ix3 0 0 k) * ((∑ l : Fin 33, val_main_v31 (F := Ideal) (ix2 p l) * W1 (ix3 0 l k)) + B1 (ix2 0 k)))
        * W2 (ix3 0 k j)) + B2 (ix2 0 j))) := by
  unfold val_main_v51 val_main_v50 val_main_v49 val_main_v48 val_main_v47 val_main_v46 val_main_v45 val_main_v44 val_main_v43 val_main_v42 val_main_v41
    val_main_v40 val_main_v39 val_main_v38 val_main_v37 val_main_v36 val_main_v35 val_main_v34 val_main_v33 val_main_v32
    val_main_v11 val_main_v10 val_main_v7 val_main_v6 val_main_v5 val_main_v4 val_main_v3 val_main_v2 val_main_v1 val_main_v0
  generalize val_main_v31 (F := Ideal) = z
  pointwise []

/-- The two hidden layers of the kernel at an entry. -/
theorem hidden_apply (x0 : Vec Ideal S2048x64 .f32) (x1 : Vec Ideal S1x64x64 .f32) (x2 : Vec Ideal S1x1x64 .f32) (x3 : Vec Ideal S1x64x64 .f32)
    (x4 : Vec Ideal S1x1x64 .f32) (x6 : Vec Ideal S1x2x64 .f32) (r : Fin 2048) (j : Fin 64) : hiddenOf x0 x1 x2 x3 x4 x6 (ix2 r j)
    = Ideal.sin (x6 (ix3 0 1 j) * ((∑ k : Fin 64, Ideal.sin (x6 (ix3 0 0 k) * ((∑ l : Fin 64, x0 (ix2 r l) * x1 (ix3 0 l k)) + x2 (ix3 0 0 k)))
        * x3 (ix3 0 k j)) + x4 (ix3 0 0 j))) := by
  pointwise [hiddenOf, k0_pay5]

/-- A sum with zeros after its thirty-third term is the sum of thirty-three. -/
theorem sum_padded (f : Fin 33 → EReal) : (∑ l : Fin 64, if h : l.val < 33 then f ⟨l.val, h⟩ else 0) = ∑ l, f l := by
  have e := Fin.sum_univ_add (a := 33) (b := 31) fun l : Fin 64 => if h : l.val < 33 then f ⟨l.val, h⟩ else (0 : EReal)
  refine e.trans ?_
  have h2 : (∑ i : Fin 31, if h : (Fin.natAdd 33 i).val < 33 then f ⟨(Fin.natAdd 33 i).val, h⟩ else (0 : EReal)) = 0 :=
    Finset.sum_eq_zero fun i _ => dif_neg (by simp)
  rw [h2, add_zero]
  exact Finset.sum_congr rfl fun i _ => dif_pos (by simp)

/-- The hidden rows are the reference's, when the blocks are its arrays. -/
theorem hidden_eq (x0 : Vec Ideal S2048x64 .f32) (x1 : Vec Ideal S1x64x64 .f32) (x2 : Vec Ideal S1x1x64 .f32) (x3 : Vec Ideal S1x64x64 .f32)
    (x4 : Vec Ideal S1x1x64 .f32) (x6 : Vec Ideal S1x2x64 .f32) (r p : Fin 2048) (j : Fin 64)
    (h0 : ∀ l : Fin 64, x0 (ix2 r l) = if h : l.val < 33 then val_main_v31 (F := Ideal) (ix2 p ⟨l.val, h⟩) else (0 : EReal))
    (h1 : ∀ l k : Fin 64, x1 (ix3 0 l k) = if h : l.val < 33 then W1 (ix3 0 ⟨l.val, h⟩ k) else (0 : EReal))
    (h2 : ∀ k, x2 (ix3 0 0 k) = B1 (ix2 0 k)) (h3 : ∀ k j, x3 (ix3 0 k j) = W2 (ix3 0 k j)) (h4 : ∀ k, x4 (ix3 0 0 k) = B2 (ix2 0 k))
    (h6 : ∀ n k, x6 (ix3 0 n k) = Q (ix3 0 n k)) :
    hiddenOf x0 x1 x2 x3 x4 x6 (ix2 r j) = val_main_v51 (F := Ideal) W1 B1 W2 B2 Q (ix2 p j) := by
  have hs : ∀ k, (∑ l : Fin 64, x0 (ix2 r l) * x1 (ix3 0 l k)) = ∑ l : Fin 33, val_main_v31 (F := Ideal) (ix2 p l) * W1 (ix3 0 l k) := fun k => by
    rw [← sum_padded]
    refine Finset.sum_congr rfl fun l _ => ?_
    rw [h0, h1]
    by_cases h : l.val < 33
    · rw [dif_pos h, dif_pos h, dif_pos h]
    · rw [dif_neg h, dif_neg h, dif_neg h]
      exact mul_zero _
  rw [hidden_apply, layers_apply]
  simp only [hs, h2, h3, h4, h6]

/-- The hidden rows are sines, so they are not infinite above. -/
theorem hidden_ne_top (x0 : Vec Ideal S2048x64 .f32) (x1 : Vec Ideal S1x64x64 .f32) (x2 : Vec Ideal S1x1x64 .f32) (x3 : Vec Ideal S1x64x64 .f32)
    (x4 : Vec Ideal S1x1x64 .f32) (x6 : Vec Ideal S1x2x64 .f32) (r : Fin 2048) (j : Fin 64) :
    hiddenOf x0 x1 x2 x3 x4 x6 (ix2 r j) ≠ (⊤ : EReal) := by
  rw [hidden_apply]
  exact sin_ne_top _

/-- The decay of the rows is the reference's, when the times and the rates are. -/
theorem decay_eq (t : Vec Ideal S2048x1 .f32) (g : Vec Ideal S1x512 .f32) (r p : Fin 2048) (ch : Fin 512)
    (ht : -(t (ix2 r 0) : EReal) = val_main_v56 (F := Ideal) (ix2 p 0)) (hg : g (ix2 0 ch) = val_main_v57 (F := Ideal) (ix2 0 ch)) :
    decayOf t g (ix2 r ch) = decay p ch := by
  rw [decay_apply, ht, hg]
  rfl

/-- The sums that the kernel stores are the reference's. -/
theorem sums_eq (r p : Fin 2048) (o : Fin 2) (ch : Fin 512) (x : Fin 1024) (f b : Vec Ideal S1x64x512 .f32) (hp : p.val = 4 * (r.val % 512) + r.val / 512)
    (hx : x.val = o.val * 512 + ch.val) (hn : ∀ k, h (ix2 r k) ≠ (⊤ : EReal)) (hh : ∀ k, h (ix2 r k) = val_main_v51 (F := Ideal) W1 B1 W2 B2 Q (ix2 p k))
    (hd : d (ix2 r ch) = decay p ch) (hW : ∀ i, IsReal (W3 i)) (hf : ∀ k, f (ix3 0 k ch) = W3 (ix3 0 k ⟨o.val * 512 + ch.val, by omega⟩))
    (hb : ∀ k, b (ix3 0 k ch) = W3 (ix3 0 k ⟨1024 + (o.val * 512 + ch.val), by omega⟩)) :
    sumOf h d f b (ix2 r ch) = val_main_v76 (F := Ideal) W1 B1 W2 B2 W3 Q (ix2 r x) := by
  rw [sums_read W1 B1 W2 B2 W3 Q r x p o ch hp hx, forward_read, masked_read]
  have e : sumOf h d f b (ix2 r ch) = (productOf h d f (ix2 r ch) + maskedOf h d b (ix2 r ch) : EReal) := rfl
  have hz : p.val = 0 ↔ r.val = 0 := by omega
  rw [e, product_apply h d f r ch hn fun k => hf k ▸ hW _, masked_apply h d b r ch hn fun k => hb k ▸ hW _, hd]
  unfold tapAt
  simp only [hh, hf, hb, hz]

/-- The differences that the kernel stores are the reference's. -/
theorem differences_eq (r p : Fin 2048) (o : Fin 2) (ch : Fin 512) (x : Fin 1024) (f b : Vec Ideal S1x64x512 .f32) (hp : p.val = 4 * (r.val % 512) + r.val / 512)
    (hx : x.val = o.val * 512 + ch.val) (hn : ∀ k, h (ix2 r k) ≠ (⊤ : EReal)) (hh : ∀ k, h (ix2 r k) = val_main_v51 (F := Ideal) W1 B1 W2 B2 Q (ix2 p k))
    (hd : d (ix2 r ch) = decay p ch) (hW : ∀ i, IsReal (W3 i)) (hf : ∀ k, f (ix3 0 k ch) = W3 (ix3 0 k ⟨o.val * 512 + ch.val, by omega⟩))
    (hb : ∀ k, b (ix3 0 k ch) = W3 (ix3 0 k ⟨1024 + (o.val * 512 + ch.val), by omega⟩)) :
    differenceOf h d f b (ix2 r ch) = val_main_v81 (F := Ideal) W1 B1 W2 B2 W3 Q (ix2 r x) := by
  rw [differences_read W1 B1 W2 B2 W3 Q r x p o ch hp hx, forward_read, masked_read]
  have e : differenceOf h d f b (ix2 r ch) = (maskedOf h d b (ix2 r ch) - productOf h d f (ix2 r ch) : EReal) := rfl
  have hz : p.val = 0 ↔ r.val = 0 := by omega
  rw [e, product_apply h d f r ch hn fun k => hf k ▸ hW _, masked_apply h d b r ch hn fun k => hb k ▸ hW _, hd]
  unfold tapAt
  simp only [hh, hf, hb, hz]

end Cert.Filters

end
-- ==== Proof.FilterTables.lean ====
/- The tables that the kernel's host code builds are the reference's: the features of the taps, the weights with rows of
   zeros added, the times and the rates of decay. -/
module

public import proofs.«01_k».proof.Proof.Gen.Kernel9Ideal.Frame
public import proofs.«01_k».proof.Proof.Gen.Reference9Ideal.Read
public import Idealize.ShloMosaic.Lib.Pipeline.ValueKit
public import Idealize.ShloMosaic.Lib.StableHlo.RunRead

@[expose] public section

set_option maxRecDepth 65536
set_option maxHeartbeats 4000000

noncomputable section

namespace Cert.Filters

open Cert.Kernel9Ideal Cert.Kernel9Ideal.Gen Idealize.ShloMosaic Idealize.ShloMosaic.TcCoe Idealize.SL.Sem

section Tables

variable {F : FTy → Type} [FloatOps F]
variable (m : (ℓ : Loc nD τ sig) → Buf (Elt F) ℓ)

/-- The features with columns of zeros after the array's own. -/
def padded (x : Vec F S2048x33 .f32) : Vec F S2048x64 .f32 :=
  pad S2048x64 ![0, 0] ![0, 31] ![0, 0] x (sitofp .f32 (constantI S_ 32 0#32)) pads_S2048x33_S2048x64_000_0310 h_S_

/-- The host's operations before the kernel, in order. -/
abbrev lines : List (HloOp τ sig (Elt F)) :=
  List.flatten [hostOps0, hostOps0_1, hostOps0_2, hostOps0_3, hostOps0_4, hostOps0_5, hostOps0_6, hostOps0_7, hostOps0_8, hostOps0_9, hostOps0_10]

/-- The first bias is reshaped only. -/
theorem v_bias (c : Dev nD) : V m c main_v1 = shapeCast S2x1x64 (m ((c : Thread nD τ).loc main_arg1)) shapeCasts_S2x64_S2x1x64 := by
  unfold V
  after_reads_simp
  rfl

/-- The second bias is reshaped only. -/
theorem v_bias' (c : Dev nD) : V m c main_v2 = shapeCast S2x1x64 (m ((c : Thread nD τ).loc main_arg3)) shapeCasts_S2x64_S2x1x64 := by
  unfold V
  after_reads_simp
  rfl

/-- The first weight gets rows of zeros. -/
theorem v_weight (c : Dev nD) : V m c main_v0 = (pad S2x64x64 ![0, 0, 0] ![0, 31, 0] ![0, 0, 0] (m ((c : Thread nD τ).loc main_arg0))
    (sitofp (F := F) .f32 (constantI S_ 32 0#32)) pads_S2x33x64_S2x64x64_000_0310_000 h_S_ : Vec F S2x64x64 .f32) := by
  unfold V
  after_reads_simp
  rfl

/-- The decay rates but for the last. -/
theorem rate_ends (c : Dev nD) : StableHlo.upto lines (fun b => m (c, b)) 102 (Proc.tc.devRef main_call4_v15) = Cert.Reference9Ideal.Read.val_main_call2_v15 (F := F) := by
  unfold lines
  after_reads_simp
  rfl

/-- The last decay rate. -/
theorem rate_last (c : Dev nD) : StableHlo.upto lines (fun b => m (c, b)) 102 (Proc.tc.devRef main_call4_v16) = Cert.Reference9Ideal.Read.val_main_call2_v16 (F := F) := by
  unfold lines
  after_reads_simp
  rfl

/-- The times but for the last. -/
theorem time_ends (c : Dev nD) : StableHlo.upto lines (fun b => m (c, b)) 27 (Proc.tc.devRef main_call1_v15) = Cert.Reference9Ideal.Read.val_main_call0_v15 (F := F) := by
  unfold lines
  after_reads_simp
  rfl

/-- The last time. -/
theorem time_last (c : Dev nD) : StableHlo.upto lines (fun b => m (c, b)) 27 (Proc.tc.devRef main_call1_v16) = Cert.Reference9Ideal.Read.val_main_call0_v16 (F := F) := by
  unfold lines
  after_reads_simp
  rfl

/-- The frequencies but for the last. -/
theorem freq_ends (c : Dev nD) : StableHlo.upto lines (fun b => m (c, b)) 59 (Proc.tc.devRef main_call2_v15) = Cert.Reference9Ideal.Read.val_main_call1_v15 (F := F) := by
  unfold lines
  after_reads_simp
  rfl

/-- The last frequency. -/
theorem freq_last (c : Dev nD) : StableHlo.upto lines (fun b => m (c, b)) 59 (Proc.tc.devRef main_call2_v16) = Cert.Reference9Ideal.Read.val_main_call1_v16 (F := F) := by
  unfold lines
  after_reads_simp
  rfl

/-- The decay rates are the reference's. -/
theorem v_rates (c : Dev nD) : V m c main_v32 = Cert.Reference9Ideal.Read.val_main_v57 (F := F) := by
  unfold V
  after_reads_simp
  have h0 := rate_ends m c
  have h1 := rate_last m c
  unfold lines at h0 h1
  rw [h0, h1]
  rfl

/-- The times are the reference's, in the order of the rows. -/
theorem v_times (c : Dev nD) : V m c main_v29 = shapeCast S2048x1 (transpose S4x512x1 [1, 0, 2]
    (shapeCast S512x4x1 (Cert.Reference9Ideal.Read.val_main_v13 (F := F)) shapeCasts_S2048x1_S512x4x1) transposes_S512x4x1_S4x512x1_1_0_2)
      shapeCasts_S4x512x1_S2048x1 := by
  unfold V
  after_reads_simp
  have h0 := time_ends m c
  have h1 := time_last m c
  unfold lines at h0 h1
  rw [h0, h1]
  rfl

/-- The features' first column. -/
theorem part_times (c : Dev nD) : StableHlo.upto lines (fun b => m (c, b)) 70 (Proc.tc.devRef main_v4) = Cert.Reference9Ideal.Read.val_main_v13 (F := F) := by
  unfold lines
  after_reads_simp
  have h0 := time_ends m c
  have h1 := time_last m c
  unfold lines at h0 h1
  rw [h0, h1]
  rfl

/-- The features' cosines. -/
theorem part_cos (c : Dev nD) : StableHlo.upto lines (fun b => m (c, b)) 70 (Proc.tc.devRef main_v16) = Cert.Reference9Ideal.Read.val_main_v25 (F := F) := by
  unfold lines
  after_reads_simp
  have h0 := freq_ends m c
  have h1 := freq_last m c
  unfold lines at h0 h1
  rw [h0, h1]
  rfl

/-- The features' sines. -/
theorem part_sin (c : Dev nD) : StableHlo.upto lines (fun b => m (c, b)) 70 (Proc.tc.devRef main_v21) = Cert.Reference9Ideal.Read.val_main_v30 (F := F) := by
  unfold lines
  after_reads_simp
  have h0 := freq_ends m c
  have h1 := freq_last m c
  unfold lines at h0 h1
  rw [h0, h1]
  rfl

/-- The features are the reference's, padded and in the order of the rows. -/
theorem v_features (c : Dev nD) : V m c main_v26 = shapeCast S2048x64 (transpose S4x512x64 [1, 0, 2]
    (shapeCast S512x4x64 (padded (Cert.Reference9Ideal.Read.val_main_v31 (F := F))) shapeCasts_S2048x64_S512x4x64) transposes_S512x4x64_S4x512x64_1_0_2)
      shapeCasts_S4x512x64_S2048x64 := by
  unfold V
  after_reads_simp
  have h0 : StableHlo.upto lines (fun b => m (c, b)) 70 (Proc.tc.devRef (![main_v4, main_v16, main_v21] 0)) = Cert.Reference9Ideal.Read.val_main_v13 (F := F) := part_times m c
  have h1 : StableHlo.upto lines (fun b => m (c, b)) 70 (Proc.tc.devRef (![main_v4, main_v16, main_v21] 1)) = Cert.Reference9Ideal.Read.val_main_v25 (F := F) := part_cos m c
  have h2 : StableHlo.upto lines (fun b => m (c, b)) 70 (Proc.tc.devRef (![main_v4, main_v16, main_v21] 2)) = Cert.Reference9Ideal.Read.val_main_v30 (F := F) := part_sin m c
  unfold lines at h0 h1 h2
  rw [h0, h1, h2]
  rfl

end Tables

end Cert.Filters

end
-- ==== Proof.Filters.lean ====
/- The filters, index by index: the arrays that the kernel leaves are the reference's. -/
module

public import proofs.«01_k».proof.Proof.FilterRows
public import proofs.«01_k».proof.Proof.FilterTables
public import proofs.«01_k».proof.Proof.Gen.Kernel9Ideal.Value

@[expose] public section

set_option maxRecDepth 16384
set_option maxHeartbeats 2000000

noncomputable section

namespace Cert.Filters

open Cert.Kernel9Ideal Cert.Kernel9Ideal.Gen Cert.Reference9Ideal.Read Idealize.ShloMosaic Idealize.ShloMosaic.TcCoe Idealize.SL.Sem
open Cert.RealSums

variable (m : (ℓ : Loc nD τ sig) → Buf (Elt Ideal) ℓ)

/-- The tap that a row of the results holds. -/
def tapOf (r : Fin 2048) : Fin 2048 := ⟨4 * (r.val % 512) + r.val / 512, by omega⟩

/-- The word of zero is zero. -/
theorem zero_word : FloatOps.sitofp (F := Ideal) FTy.f32 0#32 = (0 : EReal) := by
  show (((0#32 : BitVec 32).toInt : ℝ) : EReal) = 0
  simp

/-- The features at an entry. -/
theorem features_at (c : Dev nD) (r : Fin 2048) (l : Fin 64) : (V m c main_v26 : Vec Ideal S2048x64 .f32) (ix2 r l)
    = if h : l.val < 33 then val_main_v31 (F := Ideal) (ix2 (tapOf r) ⟨l.val, h⟩) else (0 : EReal) := by
  rw [v_features]
  generalize val_main_v31 (F := Ideal) = z
  pointwise [padded, tapOf]
  have hr : r.val % 512 * 4 + r.val / 512 < 2048 := by omega
  by_cases h : l.val < 33
  · rw [dif_pos ⟨hr, h⟩, dif_pos h]
    exact congrArg (fun q => z (ix2 q _)) (Fin.ext (by show r.val % 512 * 4 + r.val / 512 = 4 * (r.val % 512) + r.val / 512; omega))
  · rw [dif_neg (fun e => h e.2), dif_neg h]
    exact zero_word

/-- A weight with rows of zeros at an entry. -/
theorem padded_at (z : Vec Ideal S2x33x64 .f32) (l k : Fin 64) : pad S2x64x64 ![0, 0, 0] ![0, 31, 0] ![0, 0, 0] z
    (sitofp (F := Ideal) .f32 (constantI S_ 32 0#32)) pads_S2x33x64_S2x64x64_000_0310_000 h_S_ (ix3 0 l k)
      = if h : l.val < 33 then z (ix3 0 ⟨l.val, h⟩ k) else (0 : EReal) := by
  rw [← zero_word]
  pointwise []

/-- The first weight at an entry. -/
theorem weight_at (c : Dev nD) (l k : Fin 64) : (V m c main_v0 : Vec Ideal S2x64x64 .f32) (ix3 0 l k)
    = if h : l.val < 33 then (m ((c : Thread nD τ).loc main_arg0) : Vec Ideal S2x33x64 .f32) (ix3 0 ⟨l.val, h⟩ k) else (0 : EReal) :=
  (congrFun (v_weight m c) _).trans (padded_at _ l k)

/-- The time of a row. -/
theorem times_at (c : Dev nD) (r : Fin 2048) : (V m c main_v29 : Vec Ideal S2048x1 .f32) (ix2 r 0) = val_main_v13 (F := Ideal) (ix2 (tapOf r) 0) := by
  rw [v_times]
  generalize val_main_v13 (F := Ideal) = z
  pointwise [tapOf]
  exact congrArg (fun q => z (ix2 q 0)) (Fin.ext (by show r.val % 512 * 4 + r.val / 512 = 4 * (r.val % 512) + r.val / 512; omega))

/-- The reference negates the times. -/
theorem times_neg (p : Fin 2048) : val_main_v56 (F := Ideal) (ix2 p 0) = (-(val_main_v13 (F := Ideal) (ix2 p 0)) : EReal) := by
  unfold val_main_v56
  generalize val_main_v13 (F := Ideal) = z
  rfl

/-- The first bias at an entry. -/
theorem bias_at (c : Dev nD) (k : Fin 64) : (V m c main_v1 : Vec Ideal S2x1x64 .f32) (ix3 0 0 k) = (m ((c : Thread nD τ).loc main_arg1) : Vec Ideal S2x64 .f32) (ix2 0 k) := by
  rw [v_bias]
  generalize m ((c : Thread nD τ).loc main_arg1) = z
  pointwise []

/-- The second bias at an entry. -/
theorem bias_at' (c : Dev nD) (k : Fin 64) : (V m c main_v2 : Vec Ideal S2x1x64 .f32) (ix3 0 0 k) = (m ((c : Thread nD τ).loc main_arg3) : Vec Ideal S2x64 .f32) (ix2 0 k) := by
  rw [v_bias']
  generalize m ((c : Thread nD τ).loc main_arg3) = z
  pointwise []

/-- Which block each window stages. -/
theorem idx : ∀ t : Fin cfg0.N, (win0_0.index t = ![0, 0] ∧ win0_1.index t = ![0, 0, 0] ∧ win0_2.index t = ![0, 0, 0] ∧ win0_3.index t = ![0, 0, 0])
    ∧ (win0_4.index t = ![0, 0, 0] ∧ win0_5.index t = ![0, 0, 0] ∧ win0_6.index t = ![0, 0, 0] ∧ win0_7.index t = ![0, 0] ∧ win0_8.index t = ![0, 0])
    ∧ win0_9.index t = ![0, 0] ∧ win0_10.index t = ![0, 0] :=
  (by decide +kernel : ∀ t : Fin grid0.N, (win0_0.index t = ![0, 0] ∧ win0_1.index t = ![0, 0, 0] ∧ win0_2.index t = ![0, 0, 0] ∧ win0_3.index t = ![0, 0, 0])
    ∧ (win0_4.index t = ![0, 0, 0] ∧ win0_5.index t = ![0, 0, 0] ∧ win0_6.index t = ![0, 0, 0] ∧ win0_7.index t = ![0, 0] ∧ win0_8.index t = ![0, 0])
    ∧ win0_9.index t = ![0, 0] ∧ win0_10.index t = ![0, 0])

/-! The staged blocks, entry by entry. -/

theorem staged0 (c : Dev nD) (t : Fin cfg0.N) (r : Fin 2048) (l : Fin 64) : iblk m c 0 t (ix2 r l) = if h : l.val < 33 then val_main_v31 (F := Ideal) (ix2 (tapOf r) ⟨l.val, h⟩) else (0 : EReal) := by
  have e : win0_0.index t = ![0, 0] := by
    obtain ⟨⟨e0, e1, e2, e3⟩, ⟨e4, e5, e6, e7, e8⟩, -, -⟩ := idx t
    exact e0
  refine Eq.trans ?_ (features_at m c r l)
  unfold iblk
  generalize V m c (Pipeline.arrRef spec0 0) = v
  blk_point [e]

theorem staged1 (c : Dev nD) (t : Fin cfg0.N) (l k : Fin 64) : iblk m c 1 t (ix3 0 l k) = if h : l.val < 33 then (m ((c : Thread nD τ).loc main_arg0) : Vec Ideal S2x33x64 .f32) (ix3 0 ⟨l.val, h⟩ k) else (0 : EReal) := by
  have e : win0_1.index t = ![0, 0, 0] := by
    obtain ⟨⟨e0, e1, e2, e3⟩, ⟨e4, e5, e6, e7, e8⟩, -, -⟩ := idx t
    exact e1
  refine Eq.trans ?_ (weight_at m c l k)
  unfold iblk
  generalize V m c (Pipeline.arrRef spec0 1) = v
  blk_point [e]

theorem staged2 (c : Dev nD) (t : Fin cfg0.N) (k : Fin 64) : iblk m c 2 t (ix3 0 0 k) = m ((c : Thread nD τ).loc main_arg1) (ix2 0 k) := by
  have e : win0_2.index t = ![0, 0, 0] := by
    obtain ⟨⟨e0, e1, e2, e3⟩, ⟨e4, e5, e6, e7, e8⟩, -, -⟩ := idx t
    exact e2
  refine Eq.trans ?_ (bias_at m c k)
  unfold iblk
  generalize V m c (Pipeline.arrRef spec0 2) = v
  blk_point [e]

theorem staged3 (c : Dev nD) (t : Fin cfg0.N) (l k : Fin 64) : iblk m c 3 t (ix3 0 l k) = m ((c : Thread nD τ).loc main_arg2) (ix3 0 l k) := by
  have e : win0_3.index t = ![0, 0, 0] := by
    obtain ⟨⟨e0, e1, e2, e3⟩, ⟨e4, e5, e6, e7, e8⟩, -, -⟩ := idx t
    exact e3
  refine Eq.trans ?_ (congrFun (V_main_arg2 m c) (ix3 0 l k))
  unfold iblk
  generalize V m c (Pipeline.arrRef spec0 3) = v
  blk_point [e]

theorem staged4 (c : Dev nD) (t : Fin cfg0.N) (k : Fin 64) : iblk m c 4 t (ix3 0 0 k) = m ((c : Thread nD τ).loc main_arg3) (ix2 0 k) := by
  have e : win0_4.index t = ![0, 0, 0] := by
    obtain ⟨⟨e0, e1, e2, e3⟩, ⟨e4, e5, e6, e7, e8⟩, -, -⟩ := idx t
    exact e4
  refine Eq.trans ?_ (bias_at' m c k)
  unfold iblk
  generalize V m c (Pipeline.arrRef spec0 4) = v
  blk_point [e]

theorem staged5 (c : Dev nD) (t : Fin cfg0.N) (l : Fin 64) (k : Fin 2048) : iblk m c 5 t (ix3 0 l k) = m ((c : Thread nD τ).loc main_arg4) (ix3 0 l k) := by
  have e : win0_5.index t = ![0, 0, 0] := by
    obtain ⟨⟨e0, e1, e2, e3⟩, ⟨e4, e5, e6, e7, e8⟩, -, -⟩ := idx t
    exact e5
  refine Eq.trans ?_ (congrFun (V_main_arg4 m c) (ix3 0 l k))
  unfold iblk
  generalize V m c (Pipeline.arrRef spec0 5) = v
  blk_point [e]

theorem staged6 (c : Dev nD) (t : Fin cfg0.N) (n : Fin 2) (k : Fin 64) : iblk m c 6 t (ix3 0 n k) = m ((c : Thread nD τ).loc main_arg5) (ix3 0 n k) := by
  have e : win0_6.index t = ![0, 0, 0] := by
    obtain ⟨⟨e0, e1, e2, e3⟩, ⟨e4, e5, e6, e7, e8⟩, -, -⟩ := idx t
    exact e6
  refine Eq.trans ?_ (congrFun (V_main_arg5 m c) (ix3 0 n k))
  unfold iblk
  generalize V m c (Pipeline.arrRef spec0 6) = v
  blk_point [e]

theorem staged7 (c : Dev nD) (t : Fin cfg0.N) (r : Fin 2048) : iblk m c 7 t (ix2 r 0) = val_main_v13 (F := Ideal) (ix2 (tapOf r) 0) := by
  have e : win0_7.index t = ![0, 0] := by
    obtain ⟨⟨e0, e1, e2, e3⟩, ⟨e4, e5, e6, e7, e8⟩, -, -⟩ := idx t
    exact e7
  refine Eq.trans ?_ (times_at m c r)
  unfold iblk
  generalize V m c (Pipeline.arrRef spec0 7) = v
  blk_point [e]

theorem staged8 (c : Dev nD) (t : Fin cfg0.N) (ch : Fin 512) : iblk m c 8 t (ix2 0 ch) = val_main_v57 (F := Ideal) (ix2 0 ch) := by
  have e : win0_8.index t = ![0, 0] := by
    obtain ⟨⟨e0, e1, e2, e3⟩, ⟨e4, e5, e6, e7, e8⟩, -, -⟩ := idx t
    exact e8
  refine Eq.trans ?_ (congrFun (v_rates m c) (ix2 0 ch))
  unfold iblk
  generalize V m c (Pipeline.arrRef spec0 8) = v
  blk_point [e]

/-- A block of columns of the last layer's weights. -/
theorem ld_columns (w : Vec Ideal S1x64x2048 .f32) (o : Nat) (h) (k : Fin 64) (ch : Fin 512) (ho : o + ch.val < 2048) :
    View.ld w (Rect.unit (s := S1x64x2048) ![0, 0, o] S1x64x512.size h) (ix3 0 k ch) = w (ix3 0 k ⟨o + ch.val, ho⟩) :=
  View.ld_unit_apply_of w _ _ h (ix3 0 k ch) _ fun a => by
    match a with
    | ⟨0, _⟩ => rfl
    | ⟨1, _⟩ => exact (Nat.zero_add _).symm
    | ⟨2, _⟩ => rfl

end Cert.Filters

end
-- ==== Proof.FilterValues.lean ====
/- The arrays that the filters' kernel leaves, as the reference's. -/
module

public import proofs.«01_k».proof.Proof.Filters

@[expose] public section

set_option maxRecDepth 16384
set_option maxHeartbeats 2000000

noncomputable section

namespace Cert.Filters

open Cert.Kernel9Ideal Cert.Kernel9Ideal.Gen Cert.Reference9Ideal.Read Idealize.ShloMosaic Idealize.ShloMosaic.TcCoe Idealize.SL.Sem
open Cert.RealSums

variable (m : (ℓ : Loc nD τ sig) → Buf (Elt Ideal) ℓ)

/-- Where an entry of the block lies in the array. -/
theorem place9 (t : Fin cfg0.N) (z : ((cfg0.win 9).xblock (cfg0.grid.coords t)).Idx) (r : Fin 2048) (x : Fin 1024)
    (hr : r.val = (z 0).val) (hx : x.val = (z 1).val) : (win0_9.blk t).view.emb z = ix2 r x := by
  obtain ⟨-, -, e9, e10⟩ := idx t
  funext a
  match a with
  | ⟨0, _⟩ => exact Fin.ext (by blk_simp [e9]; exact hr.symm)
  | ⟨1, _⟩ => exact Fin.ext (by blk_simp [e9]; exact hx.symm)

/-- Where an entry of the block lies in the array. -/
theorem place10 (t : Fin cfg0.N) (z : ((cfg0.win 10).xblock (cfg0.grid.coords t)).Idx) (r : Fin 2048) (x : Fin 1024)
    (hr : r.val = (z 0).val) (hx : x.val = (z 1).val) : (win0_10.blk t).view.emb z = ix2 r x := by
  obtain ⟨-, -, e9, e10⟩ := idx t
  funext a
  match a with
  | ⟨0, _⟩ => exact Fin.ext (by blk_simp [e10]; exact hr.symm)
  | ⟨1, _⟩ => exact Fin.ext (by blk_simp [e10]; exact hx.symm)

/-- The sums that the kernel stores into half of the columns are the reference's. -/
theorem sums_at (c : Dev nD) (t : Fin cfg0.N) (hw : ∀ i, IsReal (m ((c : Thread nD τ).loc main_arg4) i)) (r : Fin 2048) (o : Fin 2) (ch : Fin 512)
    (x : Fin 1024) (f b : Nat) (hf : f = o.val * 512) (hb : b = 1024 + o.val * 512) (kf) (kb) (hx : x.val = o.val * 512 + ch.val) :
    sumOf (hiddenOf (iblk m c 0 t) (iblk m c 1 t) (iblk m c 2 t) (iblk m c 3 t) (iblk m c 4 t) (iblk m c 6 t)) (decayOf (iblk m c 7 t) (iblk m c 8 t))
      (View.ld (iblk m c 5 t) (Rect.unit (s := S1x64x2048) ![0, 0, f] S1x64x512.size kf)) (View.ld (iblk m c 5 t) (Rect.unit (s := S1x64x2048) ![0, 0, b] S1x64x512.size kb))
      (ix2 r ch) = val_main_v76 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (ix2 r x) := by
  subst hf hb
  exact sums_eq _ _ _ _ _ _ _ _ r (tapOf r) o ch x _ _ rfl hx (fun k => hidden_ne_top _ _ _ _ _ _ r k)
    (fun k => hidden_eq _ _ _ _ _ _ _ _ _ _ _ r (tapOf r) k (staged0 m c t r) (staged1 m c t) (staged2 m c t) (staged3 m c t) (staged4 m c t) (staged6 m c t))
    (decay_eq _ _ r (tapOf r) ch ((congrArg (fun q : EReal => -q) (staged7 m c t r)).trans (times_neg _).symm) (staged8 m c t ch)) hw
    (fun k => (ld_columns _ _ _ k ch (by omega)).trans (staged5 m c t k _))
    (fun k => (ld_columns _ _ _ k ch (by omega)).trans ((staged5 m c t k _).trans (congrArg (fun q => m ((c : Thread nD τ).loc main_arg4) (ix3 0 k q)) (Fin.ext (by simp only; omega)))))

/-- What the kernel leaves as its first result: the sums of the filters. -/
theorem value_sums (c : Dev nD) (hw : ∀ i, IsReal (m ((c : Thread nD τ).loc main_arg4) i)) :
    (dats m 0 c).arrAt 9 cfg0.N = val_main_v76 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 9 _ (by decide +kernel) fun t hf z => ?_
  blk_simp
  rw [after0_9, out9_eq]
  canon_tiles y h
  · have hx : 512 + (y 1).val < 1024 := by omega
    refine Eq.trans ?_ (congrArg _ (place9 t z (y 0) ⟨_, hx⟩ (by omega) (by simp only; omega)).symm)
    exact (congrArg _ (eq_ix2 y)).trans (sums_at m c t hw (y 0) 1 (y 1) ⟨_, hx⟩ 512 1536 (by omega) (by omega) _ _ (by simp))
  · have hx : (y 1).val < 1024 := by omega
    refine Eq.trans ?_ (congrArg _ (place9 t z (y 0) ⟨_, hx⟩ (by omega) (by simp only; omega)).symm)
    exact (congrArg _ (eq_ix2 y)).trans (sums_at m c t hw (y 0) 0 (y 1) ⟨_, hx⟩ 0 1024 (by omega) (by omega) _ _ (by simp))

/-- The differences that the kernel stores into half of the columns are the reference's. -/
theorem differences_at (c : Dev nD) (t : Fin cfg0.N) (hw : ∀ i, IsReal (m ((c : Thread nD τ).loc main_arg4) i)) (r : Fin 2048) (o : Fin 2) (ch : Fin 512)
    (x : Fin 1024) (f b : Nat) (hf : f = o.val * 512) (hb : b = 1024 + o.val * 512) (kf) (kb) (hx : x.val = o.val * 512 + ch.val) :
    differenceOf (hiddenOf (iblk m c 0 t) (iblk m c 1 t) (iblk m c 2 t) (iblk m c 3 t) (iblk m c 4 t) (iblk m c 6 t)) (decayOf (iblk m c 7 t) (iblk m c 8 t))
      (View.ld (iblk m c 5 t) (Rect.unit (s := S1x64x2048) ![0, 0, f] S1x64x512.size kf)) (View.ld (iblk m c 5 t) (Rect.unit (s := S1x64x2048) ![0, 0, b] S1x64x512.size kb))
      (ix2 r ch) = val_main_v81 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (ix2 r x) := by
  subst hf hb
  exact differences_eq _ _ _ _ _ _ _ _ r (tapOf r) o ch x _ _ rfl hx (fun k => hidden_ne_top _ _ _ _ _ _ r k)
    (fun k => hidden_eq _ _ _ _ _ _ _ _ _ _ _ r (tapOf r) k (staged0 m c t r) (staged1 m c t) (staged2 m c t) (staged3 m c t) (staged4 m c t) (staged6 m c t))
    (decay_eq _ _ r (tapOf r) ch ((congrArg (fun q : EReal => -q) (staged7 m c t r)).trans (times_neg _).symm) (staged8 m c t ch)) hw
    (fun k => (ld_columns _ _ _ k ch (by omega)).trans (staged5 m c t k _))
    (fun k => (ld_columns _ _ _ k ch (by omega)).trans ((staged5 m c t k _).trans (congrArg (fun q => m ((c : Thread nD τ).loc main_arg4) (ix3 0 k q)) (Fin.ext (by simp only; omega)))))

/-- What the kernel leaves as its second result: the differences of the filters. -/
theorem value_differences (c : Dev nD) (hw : ∀ i, IsReal (m ((c : Thread nD τ).loc main_arg4) i)) :
    (dats m 0 c).arrAt 10 cfg0.N = val_main_v81 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 10 _ (by decide +kernel) fun t hf z => ?_
  blk_simp
  rw [after0_10, out10_eq]
  canon_tiles y h
  · have hx : 512 + (y 1).val < 1024 := by omega
    refine Eq.trans ?_ (congrArg _ (place10 t z (y 0) ⟨_, hx⟩ (by omega) (by simp only; omega)).symm)
    exact (congrArg _ (eq_ix2 y)).trans (differences_at m c t hw (y 0) 1 (y 1) ⟨_, hx⟩ 512 1536 (by omega) (by omega) _ _ (by simp))
  · have hx : (y 1).val < 1024 := by omega
    refine Eq.trans ?_ (congrArg _ (place10 t z (y 0) ⟨_, hx⟩ (by omega) (by simp only; omega)).symm)
    exact (congrArg _ (eq_ix2 y)).trans (differences_at m c t hw (y 0) 0 (y 1) ⟨_, hx⟩ 0 1024 (by omega) (by omega) _ _ (by simp))

end Cert.Filters

end
-- ==== Proof.FiltersClaims.lean ====
/- The claims about the filters: the frames, and that kernel and reference leave the same two arrays when the last
   layer's weights are finite. -/
module

public import proofs.«01_k».proof.Defs
public import proofs.«01_k».proof.Proof.FilterValues
public import proofs.«01_k».proof.Proof.Finite
public import proofs.«01_k».proof.Pre_finite9
public import proofs.«01_k».proof.Proof.Gen.Pre_finite9
public import proofs.«01_k».proof.Proof.Gen.Kernel9.Frame
public import proofs.«01_k».proof.Proof.Gen.Reference9Ideal.Run
public import Idealize.ShloMosaic.Lib.Quiescent
public import Idealize.ShloMosaic.Lib.ReduceAll

@[expose] public section

set_option maxRecDepth 16384

noncomputable section

namespace Cert.Filters

open Cert.Kernel9Ideal Cert.Kernel9Ideal.Gen Cert.Reference9Ideal.Read Idealize.ShloMosaic Idealize.ShloMosaic.TcCoe Idealize.SL.Sem
open Cert.RealSums

/-- The precondition says that the last layer's weights are real. -/
theorem finite_weights (x0 : FVec Ideal Cert.Pre_finite9.S2x33x64 .f32) (x1 : FVec Ideal Cert.Pre_finite9.S2x64 .f32) (x2 : FVec Ideal Cert.Pre_finite9.S2x64x64 .f32)
    (x3 : FVec Ideal Cert.Pre_finite9.S2x64 .f32) (x4 : FVec Ideal Cert.Pre_finite9.S2x64x2048 .f32) (x5 : FVec Ideal Cert.Pre_finite9.S2x2x64 .f32)
    (h : Cert.Pre_finite9.fn (F := Ideal) x0 x1 x2 x3 x4 x5 = fun _ => 1#1) (i) : IsReal (x4 i) := by
  have e := congrFun h (Shape.Idx.first Cert.Pre_finite9.Gen.facts.h_S_)
  dsimp only [Cert.Pre_finite9.fn] at e
  exact isReal_of_olt _ _ infinity32 (Host.reduce_andi_all _ _ _ _ _ e i)

/-- The reference ends with its counters at zero. -/
theorem frameReference : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- Both programs leave the two arrays that the reference's operations compute from the arguments. -/
theorem algebraic : Cert.algebraic_Kernel9Ideal_Reference9Ideal_pre_finite9 := by
  intro m g m' g' hp hagree
  refine ⟨fun c => val_main_v76 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)),
      fun c => val_main_v81 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)), ?_, ?_⟩
  · refine (θ_run Cert.Kernel9Ideal.defs _ _).mono (fun r h c => ?_) (Cert.Kernel9Ideal.Value.run_blocks (F := Ideal) m g)
    have hw := finite_weights _ _ _ _ _ _ (hp c)
    exact ⟨(h c).1.trans (value_sums m c hw), (h c).2.1.trans (value_differences m c hw), (h c).2.2⟩
  · refine (θ_run Cert.Reference9Ideal.defs _ _).mono (fun r h c => ⟨(h c).1.trans ?_, (h c).2.1.trans ?_, (h c).2.2⟩)
      (Cert.Reference9Ideal.Value.run (F := Ideal) m' g')
    · obtain ⟨e0, e1, e2, e3, e4, e5⟩ := hagree c
      rw [val_main_v76_eq, e0, e1, e2, e3, e4, e5]
    · obtain ⟨e0, e1, e2, e3, e4, e5⟩ := hagree c
      rw [val_main_v81_eq, e0, e1, e2, e3, e4, e5]

end Cert.Filters

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Pre_finite
public import proofs.«01_k».proof.Proof.Gen.Pre_finite2
public import proofs.«01_k».proof.Proof.Gen.Pre_finite9
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.XattnClaims
public import proofs.«01_k».proof.Proof.FfnClaims
public import proofs.«01_k».proof.Proof.MergeClaims
public import proofs.«01_k».proof.Proof.ShortconvClaims
public import proofs.«01_k».proof.Proof.ResidualClaims
public import proofs.«01_k».proof.Proof.MemKvClaims
public import proofs.«01_k».proof.Proof.ResidualNormClaims
public import proofs.«01_k».proof.Proof.PrenormClaims
public import proofs.«01_k».proof.Proof.FiltersClaims
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Pre_finite.Gen.facts, Cert.Pre_finite2.Gen.facts, Cert.Pre_finite9.Gen.facts, by
  exact ⟨
    -- the attention over the memory
    fun m ρ _ => Cert.Kernel.Gen.frame m ρ,
    fun m ρ _ => Cert.KernelIdeal.Gen.frame m ρ,
    fun m ρ _ => Cert.KernelIdeal.Gen.frame m ρ,
    Cert.Xattn.frameReference,
    fun m ρ _ => Cert.Xattn.frameReference m ρ trivial,
    -- the FFN
    fun m ρ _ => Cert.Kernel2.Gen.frame m ρ,
    fun m ρ _ => Cert.Kernel2Ideal.Gen.frame m ρ,
    fun m ρ _ => Cert.Kernel2Ideal.Gen.frame m ρ,
    Cert.Ffn.frameReference,
    fun m ρ _ => Cert.Ffn.frameReference m ρ trivial,
    -- the merge
    fun m ρ _ => Cert.Kernel3.Gen.frame m ρ,
    fun m ρ _ => Cert.Kernel3Ideal.Gen.frame m ρ,
    Cert.Merge.frameReference,
    -- the short convolution
    fun m ρ _ => Cert.Kernel4.Gen.frame m ρ,
    fun m ρ _ => Cert.Kernel4Ideal.Gen.frame m ρ,
    Cert.Shortconv.frameReference,
    -- the last residual addition
    fun m ρ _ => Cert.Kernel5.Gen.frame m ρ,
    fun m ρ _ => Cert.Kernel5Ideal.Gen.frame m ρ,
    Cert.Residual.frameReference,
    -- the memory's keys and values
    fun m ρ _ => Cert.Kernel6.Gen.frame m ρ,
    fun m ρ _ => Cert.Kernel6Ideal.Gen.frame m ρ,
    Cert.MemKv.frameReference,
    -- the residual addition between the layers
    fun m ρ _ => Cert.Kernel7.Gen.frame m ρ,
    fun m ρ _ => Cert.Kernel7Ideal.Gen.frame m ρ,
    Cert.ResidualNorm.frameReference,
    -- the first norm
    fun m ρ _ => Cert.Kernel8.Gen.frame m ρ,
    fun m ρ _ => Cert.Kernel8Ideal.Gen.frame m ρ,
    Cert.Prenorm.frameReference,
    -- the filters
    fun m ρ _ => Cert.Kernel9.Gen.frame m ρ,
    fun m ρ _ => Cert.Kernel9Ideal.Gen.frame m ρ,
    fun m ρ _ => Cert.Kernel9Ideal.Gen.frame m ρ,
    Cert.Filters.frameReference,
    fun m ρ _ => Cert.Filters.frameReference m ρ trivial,
    -- the idealizations and the values
    trivial,
    Cert.Xattn.algebraic,
    IdealRules.named_const.statement Cert.Kernel2Ideal.κ "gelu_cubic" .f32 _ _ rfl,
    Cert.Ffn.algebraic,
    trivial,
    Cert.Merge.algebraic,
    trivial,
    Cert.Shortconv.algebraic,
    trivial,
    Cert.Residual.algebraic,
    trivial,
    Cert.MemKv.algebraic,
    trivial,
    Cert.ResidualNorm.algebraic,
    trivial,
    Cert.Prenorm.algebraic,
    trivial,
    Cert.Filters.algebraic⟩⟩

end Cert.Proof

end
